-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S8x128
  ∧ IdealRules.bf16_pair.Statement Cert.KernelIdeal.S2x1024 Cert.KernelIdeal.S1x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_4)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_4) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96 : Shape := ⟨2, ![2, 96]⟩
abbrev S12x256x8 : Shape := ⟨3, ![12, 256, 8]⟩
abbrev S4194304x12 : Shape := ⟨2, ![4194304, 12]⟩
abbrev S12x8x256 : Shape := ⟨3, ![12, 8, 256]⟩
abbrev S12x4194304 : Shape := ⟨2, ![12, 4194304]⟩
abbrev S2x4194304 : Shape := ⟨2, ![2, 4194304]⟩
abbrev S2x12x256 : Shape := ⟨3, ![2, 12, 256]⟩
abbrev S2x12 : Shape := ⟨2, ![2, 12]⟩
abbrev S1x2 : Shape := ⟨2, ![1, 2]⟩
abbrev S12x65536 : Shape := ⟨2, ![12, 65536]⟩
abbrev S2x65536 : Shape := ⟨2, ![2, 65536]⟩
abbrev S12x8x128 : Shape := ⟨3, ![12, 8, 128]⟩
abbrev S4x8x128 : Shape := ⟨3, ![4, 8, 128]⟩
abbrev S8x96 : Shape := ⟨2, ![8, 96]⟩
abbrev S8x12 : Shape := ⟨2, ![8, 12]⟩
abbrev S1x96 : Shape := ⟨2, ![1, 96]⟩
abbrev S8 : Shape := ⟨1, ![8]⟩
abbrev S8x1 : Shape := ⟨2, ![8, 1]⟩
abbrev S1x8x256 : Shape := ⟨3, ![1, 8, 256]⟩
abbrev S8x256 : Shape := ⟨2, ![8, 256]⟩
abbrev S1x12 : Shape := ⟨2, ![1, 12]⟩
abbrev S1x1 : Shape := ⟨2, ![1, 1]⟩
abbrev S8x128 : Shape := ⟨2, ![8, 128]⟩
abbrev S1x8x128 : Shape := ⟨3, ![1, 8, 128]⟩
abbrev S1x256 : Shape := ⟨2, ![1, 256]⟩
abbrev S12x256 : Shape := ⟨2, ![12, 256]⟩
abbrev S1x12x256 : Shape := ⟨3, ![1, 12, 256]⟩
abbrev S3x65536 : Shape := ⟨2, ![3, 65536]⟩
abbrev S1x1024 : Shape := ⟨2, ![1, 1024]⟩
abbrev S32x128 : Shape := ⟨2, ![32, 128]⟩
abbrev S32x128x1 : Shape := ⟨3, ![32, 128, 1]⟩
abbrev S1x65536 : Shape := ⟨2, ![1, 65536]⟩
abbrev S2x1024 : Shape := ⟨2, ![2, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2x96, .bf16⟩
  | .hbm, ⟨1, _⟩ => ⟨S12x256x8, .f32⟩
  | .hbm, ⟨2, _⟩ => ⟨S4194304x12, .i8⟩
  | .hbm, ⟨3, _⟩ => ⟨S12x8x256, .f32⟩
  | .hbm, ⟨4, _⟩ => ⟨S12x4194304, .i8⟩
  | .hbm, ⟨5, _⟩ => ⟨S2x4194304, .bf16⟩
  | .hbm, ⟨6, _⟩ => ⟨S2x4194304, .i32⟩
  | .hbm, ⟨7, _⟩ => ⟨S2x12x256, .i8⟩
  | .hbm, ⟨8, _⟩ => ⟨S2x12, .f32⟩
  | .hbm, ⟨9, _⟩ => ⟨S1x2, .f32⟩
  | .local _ .vmem, ⟨0, _⟩ => ⟨S2x96, .bf16⟩
  | .local _ .vmem, ⟨1, _⟩ => ⟨S12x8x256, .f32⟩
  | .local _ .vmem, ⟨2, _⟩ => ⟨S12x65536, .i8⟩
  | .local _ .vmem, ⟨3, _⟩ => ⟨S12x65536, .i8⟩
  | .local _ .vmem, ⟨4, _⟩ => ⟨S2x65536, .bf16⟩
  | .local _ .vmem, ⟨5, _⟩ => ⟨S2x65536, .bf16⟩
  | .local _ .vmem, ⟨6, _⟩ => ⟨S2x65536, .i32⟩
  | .local _ .vmem, ⟨7, _⟩ => ⟨S2x65536, .i32⟩
  | .local _ .vmem, ⟨8, _⟩ => ⟨S2x12x256, .i8⟩
  | .local _ .vmem, ⟨9, _⟩ => ⟨S2x12, .f32⟩
  | .local _ .vmem, ⟨10, _⟩ => ⟨S1x2, .f32⟩
  | .local _ .vmem, ⟨11, _⟩ => ⟨S12x8x128, .i32⟩
  | .local _ .vmem, ⟨12, _⟩ => ⟨S4x8x128, .f32⟩
  | _, _ => ⟨S2x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12x65536 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x65536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x65536 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x12x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S2x96 : Shape := ⟨2, ![2, 96]⟩
abbrev S12x256x8 : Shape := ⟨3, ![12, 256, 8]⟩
abbrev S4194304x12 : Shape := ⟨2, ![4194304, 12]⟩
abbrev S2x12x8 : Shape := ⟨3, ![2, 12, 8]⟩
abbrev S2x12x1x8 : Shape := ⟨4, ![2, 12, 1, 8]⟩
abbrev S1x12x256x8 : Shape := ⟨4, ![1, 12, 256, 8]⟩
abbrev S2x12x256x8 : Shape := ⟨4, ![2, 12, 256, 8]⟩
abbrev S_ : Shape := ⟨0, ![]⟩
abbrev S2x12x256 : Shape := ⟨3, ![2, 12, 256]⟩
abbrev S2x12 : Shape := ⟨2, ![2, 12]⟩
abbrev S2x12x1 : Shape := ⟨3, ![2, 12, 1]⟩
abbrev S2 : Shape := ⟨1, ![2]⟩
abbrev S2x1x1 : Shape := ⟨3, ![2, 1, 1]⟩
abbrev S12 : Shape := ⟨1, ![12]⟩
abbrev S1x12 : Shape := ⟨2, ![1, 12]⟩
abbrev S4194304x12x1 : Shape := ⟨3, ![4194304, 12, 1]⟩
abbrev S4194304x12x2 : Shape := ⟨3, ![4194304, 12, 2]⟩
abbrev S2x4194304x12 : Shape := ⟨3, ![2, 4194304, 12]⟩
abbrev S2x4194304 : Shape := ⟨2, ![2, 4194304]⟩
abbrev S2x1 : Shape := ⟨2, ![2, 1]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S2x96, .bf16⟩
  | .hbm, ⟨1, _⟩ => ⟨S12x256x8, .f32⟩
  | .hbm, ⟨2, _⟩ => ⟨S4194304x12, .i8⟩
  | .hbm, ⟨3, _⟩ => ⟨S2x96, .f32⟩
  | .hbm, ⟨4, _⟩ => ⟨S2x12x8, .f32⟩
  | .hbm, ⟨5, _⟩ => ⟨S2x12x1x8, .f32⟩
  | .hbm, ⟨6, _⟩ => ⟨S1x12x256x8, .f32⟩
  | .hbm, ⟨7, _⟩ => ⟨S2x12x256x8, .f32⟩
  | .hbm, ⟨8, _⟩ => ⟨S2x12x256x8, .f32⟩
  | .hbm, ⟨9, _⟩ => ⟨S2x12x256x8, .f32⟩
  | .hbm, ⟨10, _⟩ => ⟨S2x12x256x8, .f32⟩
  | .hbm, ⟨11, _⟩ => ⟨S_, .f32⟩
  | .hbm, ⟨12, _⟩ => ⟨S2x12x256, .f32⟩
  | .hbm, ⟨13, _⟩ => ⟨S_, .f32⟩
  | .hbm, ⟨14, _⟩ => ⟨S2x12, .f32⟩
  | .hbm, ⟨15, _⟩ => ⟨S2x12x1, .f32⟩
  | .hbm, ⟨16, _⟩ => ⟨S2x12x256, .f32⟩
  | .hbm, ⟨17, _⟩ => ⟨S2x12x256, .f32⟩
  | .hbm, ⟨18, _⟩ => ⟨S_, .f32⟩
  | .hbm, ⟨19, _⟩ => ⟨S2, .f32⟩
  | .hbm, ⟨20, _⟩ => ⟨S_, .f32⟩
  | .hbm, ⟨21, _⟩ => ⟨S2, .f32⟩
  | .hbm, ⟨22, _⟩ => ⟨S2, .i1⟩
  | .hbm, ⟨23, _⟩ => ⟨S_, .f32⟩
  | .hbm, ⟨24, _⟩ => ⟨S2, .f32⟩
  | .hbm, ⟨25, _⟩ => ⟨S2, .f32⟩
  | .hbm, ⟨26, _⟩ => ⟨S_, .f32⟩
  | .hbm, ⟨27, _⟩ => ⟨S_, .f32⟩
  | .hbm, ⟨28, _⟩ => ⟨S2, .f32⟩
  | .hbm, ⟨29, _⟩ => ⟨S2, .f32⟩
  | .hbm, ⟨30, _⟩ => ⟨S2x12x1, .f32⟩
  | .hbm, ⟨31, _⟩ => ⟨S2x12x256, .f32⟩
  | .hbm, ⟨32, _⟩ => ⟨S2x12x256, .f32⟩
  | .hbm, ⟨33, _⟩ => ⟨S2x1x1, .f32⟩
  | .hbm, ⟨34, _⟩ => ⟨S2x12x256, .f32⟩
  | .hbm, ⟨35, _⟩ => ⟨S2x12x256, .f32⟩
  | .hbm, ⟨36, _⟩ => ⟨S2x12x256, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S2x12x256, .f32⟩
  | .hbm, ⟨41, _⟩ => ⟨S2x12x256, .f32⟩
  | .hbm, ⟨42, _⟩ => ⟨S_, .f32⟩
  | .hbm, ⟨43, _⟩ => ⟨S2x12x256, .f32⟩
  | .hbm, ⟨44, _⟩ => ⟨S2x12x256, .f32⟩
  | .hbm, ⟨45, _⟩ => ⟨S2x12x256, .i32⟩
  | .hbm, ⟨46, _⟩ => ⟨S2x12x256, .i8⟩
  | .hbm, ⟨47, _⟩ => ⟨S12, .i32⟩
  | .hbm, ⟨48, _⟩ => ⟨S1x12, .i32⟩
  | .hbm, ⟨49, _⟩ => ⟨S4194304x12, .i32⟩
  | .hbm, ⟨50, _⟩ => ⟨S_, .i32⟩
  | .hbm, ⟨51, _⟩ => ⟨S1x12, .i32⟩
  | .hbm, ⟨52, _⟩ => ⟨S1x12, .i1⟩
  | .hbm, ⟨53, _⟩ => ⟨S_, .i32⟩
  | .hbm, ⟨54, _⟩ => ⟨S1x12, .i32⟩
  | .hbm, ⟨55, _⟩ => ⟨S1x12, .i32⟩
  | .hbm, ⟨56, _⟩ => ⟨S1x12, .i32⟩
  | .hbm, ⟨57, _⟩ => ⟨S_, .i32⟩
  | .hbm, ⟨58, _⟩ => ⟨S4194304x12, .i32⟩
  | .hbm, ⟨59, _⟩ => ⟨S4194304x12, .i1⟩
  | .hbm, ⟨60, _⟩ => ⟨S_, .i32⟩
  | .hbm, ⟨61, _⟩ => ⟨S4194304x12, .i32⟩
  | .hbm, ⟨62, _⟩ => ⟨S4194304x12, .i32⟩
  | .hbm, ⟨63, _⟩ => ⟨S4194304x12, .i32⟩
  | .hbm, ⟨64, _⟩ => ⟨S4194304x12, .i32⟩
  | .hbm, ⟨65, _⟩ => ⟨S4194304x12x1, .i32⟩
  | .hbm, ⟨66, _⟩ => ⟨S4194304x12x1, .i32⟩
  | .hbm, ⟨67, _⟩ => ⟨S4194304x12x2, .i32⟩
  | .hbm, ⟨68, _⟩ => ⟨S2x4194304x12, .i8⟩
  | .hbm, ⟨69, _⟩ => ⟨S2x4194304x12, .i32⟩
  | .hbm, ⟨70, _⟩ => ⟨S_, .i32⟩
  | .hbm, ⟨71, _⟩ => ⟨S2x4194304, .i32⟩
  | .hbm, ⟨72, _⟩ => ⟨S2x1, .f32⟩
  | .hbm, ⟨73, _⟩ => ⟨S2x4194304, .f32⟩
  | .hbm, ⟨74, _⟩ => ⟨S2x4194304, .f32⟩
  | .hbm, ⟨75, _⟩ => ⟨S2x4194304, .f32⟩
  | .hbm, ⟨76, _⟩ => ⟨S_, .f32⟩
  | .hbm, ⟨77, _⟩ => ⟨S2, .f32⟩
  | .hbm, ⟨78, _⟩ => ⟨S2x1, .f32⟩
  | .hbm, ⟨79, _⟩ => ⟨S2x4194304, .f32⟩
  | .hbm, ⟨80, _⟩ => ⟨S2x4194304, .f32⟩
  | .hbm, ⟨81, _⟩ => ⟨S2x4194304, .bf16⟩
  | .hbm, ⟨82, _⟩ => ⟨S1x2, .f32⟩
  | _, _ => ⟨S2x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.First.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The block of code words as the body loads it. -/
abbrev codesLoad (arg3 : Memref sig .tc .vmem S12x65536 .i8) (harg3 : arg3.IsWhole) (x2 : Vec F S12x65536 .i8) : Vec F S12x65536 .i8 :=
  arg3.view.readAt (Elt F) (Rect.unit (s := S12x65536) ![0, 0] S12x65536.size inb_S12x65536_S12x65536_0_0).toLoadRect (harg3.unread x2)

/-- The first two rows of the table as the body loads them. -/
abbrev rowLoad0 (T : Vec F S12x8x128 .i32) : Vec F S1x8x128 .i32 := fun j =>
  T ((Rect.unit (s := S12x8x128) ![0, 0, 0] S1x8x128.size inb_S12x8x128_S1x8x128_0_0_0).toLoadRect.idx j)
abbrev rowLoad1 (T : Vec F S12x8x128 .i32) : Vec F S1x8x128 .i32 := fun j =>
  T ((Rect.unit (s := S12x8x128) ![1, 0, 0] S1x8x128.size inb_S12x8x128_S1x8x128_1_0_0).toLoadRect.idx j)

/-- What the first stretch of the body hands on: values of the code block and of the first two table rows. -/
abbrev firstVals (arg3 : Memref sig .tc .vmem S12x65536 .i8) (harg3 : arg3.IsWhole)
    (x2 : Vec F S12x65536 .i8) (T : Vec F S12x8x128 .i32) :
    Σ' (v5 : IVec S3x65536 32) (v10 : IVec S32x128 8) (v16 : IVec S8x128 32) (v38 : IVec S8x128 32) (v40 : IVec S8x128 32), IVec S8x128 32 :=
  ⟨k0_pay174 (codesLoad arg3 harg3 x2), k0_pay176 (codesLoad arg3 harg3 x2), k0_pay177 (codesLoad arg3 harg3 x2),
    k0_pay178 (codesLoad arg3 harg3 x2) (rowLoad0 T) (rowLoad1 T),
    k0_pay179 (codesLoad arg3 harg3 x2) (rowLoad0 T) (rowLoad1 T), k0_pay180⟩

end Cert.KernelIdeal.Adc

end
-- ==== Proof.MainRun.lean ====
module

public import proofs.«01_k».proof.Proof.First

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 9600000 in
/-- The body after its first stretch: given that the first stretch (`k0_part26`, where point 0 builds the tables) hands on
    the values `v5 … v41` and leaves the table `T` and the scales `S`, the rest runs and leaves the two result windows at what its stores wrote:
    the pieces, found by the run, are the witness. -/
def mainRun (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (v5 : IVec S3x65536 32) (v10 : IVec S32x128 8) (v16 : IVec S8x128 32) (v38 : IVec S8x128 32) (v40 : IVec S8x128 32) (v41 : IVec S8x128 32)
    (T : Vec F S12x8x128 .i32) (S : Vec F S4x8x128 .f32) :
    Σ' (L4 : List (View.Piece (Elt F) S2x65536 .bf16)), { L5 : List (View.Piece (Elt F) S2x65536 .i32) //
      ∀ (E : Set ℕ) (K : PUnit → sProp 𝕄) (P R : sProp 𝕄)
        (hfirst : ∀ K', iprop(P ∗ (iprop(R ∗ owns (c : Thread nD τ) arg9 fullShare T ∗ owns (c : Thread nD τ) arg10 fullShare S)
            -∗ K' ⟨v5, v10, v16, v38, v40, v41⟩))
          ⊢ wp frame (wpE (defs₀ (F := F)) Variants.none c none) E (k0_part26 i arg1 harg1 arg2 harg2 arg3 harg3 arg4 harg4 arg5 harg5 arg6 harg6 arg7 harg7 arg8 harg8 arg9 harg9 arg10 harg10) K'),
        iprop(P ∗ (∃ d, owns (c : Thread nD τ) arg4 fullShare d) ∗ (∃ d, owns (c : Thread nD τ) arg5 fullShare d)
            ∗ (iprop(R ∗ owns (c : Thread nD τ) arg4 fullShare (View.canon L4) ∗ owns (c : Thread nD τ) arg5 fullShare (View.canon L5)
                ∗ owns (c : Thread nD τ) arg9 fullShare T ∗ owns (c : Thread nD τ) arg10 fullShare S) -∗ K ⟨⟩))
          ⊢ wp frame (wpE (defs₀ (F := F)) Variants.none c none) E (cc0_adc i arg1 harg1 arg2 harg2 arg3 harg3 arg4 harg4 arg5 harg5 arg6 harg6 arg7 harg7 arg8 harg8 arg9 harg9 arg10 harg10) K } := by
  refine ⟨?_, ?_, ?prf⟩
  case prf =>
    intro E K P R hfirst
    simp only [cc0_adc_eq_skeleton]; unfold cc0_adc_skel
    simp only [k0_part386_eq_skeleton]; unfold k0_part386_skel
    rw [wp_bind, wp_bind]
    iintro ⟨HP, H4, H5, Hk⟩
    iapply hfirst
    isplitl [HP]; · iexact HP
    unfold owns
    iintro ⟨HR, ⟨%f9, %hf9, H9⟩, ⟨%f10, %hf10, H10⟩⟩
    icases H4 with ⟨%d4, %f4, -, H4⟩
    icases H5 with ⟨%d5, %f5, -, H5⟩
    obtain rfl := harg9.eq_unread hf9; obtain rfl := harg10.eq_unread hf10
    dsimp only
    rw [← wp_bind]
    simp only [k0_part27_eq_skeleton, k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part37_eq_skeleton, k0_part38_eq_skeleton, k0_part39_eq_skeleton,
      k0_part40_eq_skeleton, k0_part41_eq_skeleton, k0_part42_eq_skeleton, k0_part43_eq_skeleton,
      k0_part44_eq_skeleton, k0_part45_eq_skeleton, k0_part46_eq_skeleton, k0_part47_eq_skeleton,
      k0_part48_eq_skeleton, k0_part49_eq_skeleton, k0_part50_eq_skeleton, k0_part51_eq_skeleton,
      k0_part52_eq_skeleton, k0_part53_eq_skeleton, k0_part54_eq_skeleton, k0_part55_eq_skeleton,
      k0_part56_eq_skeleton, k0_part57_eq_skeleton, k0_part58_eq_skeleton, k0_part59_eq_skeleton,
      k0_part60_eq_skeleton, k0_part61_eq_skeleton, k0_part62_eq_skeleton, k0_part63_eq_skeleton,
      k0_part64_eq_skeleton, k0_part65_eq_skeleton, k0_part66_eq_skeleton, k0_part67_eq_skeleton,
      k0_part68_eq_skeleton, k0_part69_eq_skeleton, k0_part70_eq_skeleton, k0_part71_eq_skeleton,
      k0_part72_eq_skeleton, k0_part73_eq_skeleton, k0_part74_eq_skeleton, k0_part75_eq_skeleton,
      k0_part76_eq_skeleton, k0_part77_eq_skeleton, k0_part78_eq_skeleton, k0_part79_eq_skeleton,
      k0_part80_eq_skeleton, k0_part81_eq_skeleton, k0_part82_eq_skeleton, k0_part83_eq_skeleton,
      k0_part84_eq_skeleton, k0_part85_eq_skeleton, k0_part86_eq_skeleton, k0_part87_eq_skeleton,
      k0_part88_eq_skeleton, k0_part89_eq_skeleton, k0_part90_eq_skeleton, k0_part91_eq_skeleton,
      k0_part92_eq_skeleton, k0_part93_eq_skeleton, k0_part94_eq_skeleton, k0_part95_eq_skeleton,
      k0_part96_eq_skeleton, k0_part97_eq_skeleton, k0_part98_eq_skeleton, k0_part99_eq_skeleton,
      k0_part100_eq_skeleton, k0_part101_eq_skeleton, k0_part102_eq_skeleton, k0_part103_eq_skeleton,
      k0_part104_eq_skeleton, k0_part105_eq_skeleton, k0_part106_eq_skeleton, k0_part107_eq_skeleton,
      k0_part108_eq_skeleton, k0_part109_eq_skeleton, k0_part110_eq_skeleton, k0_part111_eq_skeleton,
      k0_part112_eq_skeleton, k0_part113_eq_skeleton, k0_part114_eq_skeleton, k0_part115_eq_skeleton,
      k0_part116_eq_skeleton, k0_part117_eq_skeleton, k0_part118_eq_skeleton, k0_part119_eq_skeleton,
      k0_part120_eq_skeleton, k0_part121_eq_skeleton, k0_part122_eq_skeleton, k0_part123_eq_skeleton,
      k0_part124_eq_skeleton, k0_part125_eq_skeleton, k0_part126_eq_skeleton, k0_part127_eq_skeleton,
      k0_part128_eq_skeleton, k0_part129_eq_skeleton, k0_part130_eq_skeleton, k0_part131_eq_skeleton,
      k0_part132_eq_skeleton, k0_part133_eq_skeleton, k0_part134_eq_skeleton, k0_part135_eq_skeleton,
      k0_part136_eq_skeleton, k0_part137_eq_skeleton, k0_part138_eq_skeleton, k0_part139_eq_skeleton,
      k0_part140_eq_skeleton, k0_part141_eq_skeleton, k0_part142_eq_skeleton, k0_part143_eq_skeleton,
      k0_part144_eq_skeleton, k0_part145_eq_skeleton, k0_part146_eq_skeleton, k0_part147_eq_skeleton,
      k0_part148_eq_skeleton, k0_part149_eq_skeleton, k0_part150_eq_skeleton, k0_part151_eq_skeleton,
      k0_part152_eq_skeleton, k0_part153_eq_skeleton, k0_part154_eq_skeleton, k0_part155_eq_skeleton,
      k0_part156_eq_skeleton, k0_part157_eq_skeleton, k0_part158_eq_skeleton, k0_part159_eq_skeleton,
      k0_part160_eq_skeleton, k0_part161_eq_skeleton, k0_part162_eq_skeleton, k0_part163_eq_skeleton,
      k0_part164_eq_skeleton, k0_part165_eq_skeleton, k0_part166_eq_skeleton, k0_part167_eq_skeleton,
      k0_part168_eq_skeleton, k0_part169_eq_skeleton, k0_part170_eq_skeleton, k0_part171_eq_skeleton,
      k0_part172_eq_skeleton, k0_part173_eq_skeleton, k0_part174_eq_skeleton, k0_part175_eq_skeleton,
      k0_part176_eq_skeleton, k0_part177_eq_skeleton, k0_part178_eq_skeleton, k0_part179_eq_skeleton,
      k0_part180_eq_skeleton, k0_part181_eq_skeleton, k0_part182_eq_skeleton, k0_part183_eq_skeleton,
      k0_part184_eq_skeleton, k0_part185_eq_skeleton, k0_part186_eq_skeleton, k0_part187_eq_skeleton,
      k0_part188_eq_skeleton, k0_part189_eq_skeleton, k0_part190_eq_skeleton, k0_part191_eq_skeleton,
      k0_part192_eq_skeleton, k0_part193_eq_skeleton, k0_part194_eq_skeleton, k0_part195_eq_skeleton,
      k0_part196_eq_skeleton, k0_part197_eq_skeleton, k0_part198_eq_skeleton, k0_part199_eq_skeleton,
      k0_part200_eq_skeleton, k0_part201_eq_skeleton, k0_part202_eq_skeleton, k0_part203_eq_skeleton,
      k0_part204_eq_skeleton, k0_part205_eq_skeleton, k0_part206_eq_skeleton, k0_part207_eq_skeleton,
      k0_part208_eq_skeleton, k0_part209_eq_skeleton, k0_part210_eq_skeleton, k0_part211_eq_skeleton,
      k0_part212_eq_skeleton, k0_part213_eq_skeleton, k0_part214_eq_skeleton, k0_part215_eq_skeleton,
      k0_part216_eq_skeleton, k0_part217_eq_skeleton, k0_part218_eq_skeleton, k0_part219_eq_skeleton,
      k0_part220_eq_skeleton, k0_part221_eq_skeleton, k0_part222_eq_skeleton, k0_part223_eq_skeleton,
      k0_part224_eq_skeleton, k0_part225_eq_skeleton, k0_part226_eq_skeleton, k0_part227_eq_skeleton,
      k0_part228_eq_skeleton, k0_part229_eq_skeleton, k0_part230_eq_skeleton, k0_part231_eq_skeleton,
      k0_part232_eq_skeleton, k0_part233_eq_skeleton, k0_part234_eq_skeleton, k0_part235_eq_skeleton,
      k0_part236_eq_skeleton, k0_part237_eq_skeleton, k0_part238_eq_skeleton, k0_part239_eq_skeleton,
      k0_part240_eq_skeleton, k0_part241_eq_skeleton, k0_part242_eq_skeleton, k0_part243_eq_skeleton,
      k0_part244_eq_skeleton, k0_part245_eq_skeleton, k0_part246_eq_skeleton, k0_part247_eq_skeleton,
      k0_part248_eq_skeleton, k0_part249_eq_skeleton, k0_part250_eq_skeleton, k0_part251_eq_skeleton,
      k0_part252_eq_skeleton, k0_part253_eq_skeleton, k0_part254_eq_skeleton, k0_part255_eq_skeleton,
      k0_part256_eq_skeleton, k0_part257_eq_skeleton, k0_part258_eq_skeleton, k0_part259_eq_skeleton,
      k0_part260_eq_skeleton, k0_part261_eq_skeleton, k0_part262_eq_skeleton, k0_part263_eq_skeleton,
      k0_part264_eq_skeleton, k0_part265_eq_skeleton, k0_part266_eq_skeleton, k0_part267_eq_skeleton,
      k0_part268_eq_skeleton, k0_part269_eq_skeleton, k0_part270_eq_skeleton, k0_part271_eq_skeleton,
      k0_part272_eq_skeleton, k0_part273_eq_skeleton, k0_part274_eq_skeleton, k0_part275_eq_skeleton,
      k0_part276_eq_skeleton, k0_part277_eq_skeleton, k0_part278_eq_skeleton, k0_part279_eq_skeleton,
      k0_part280_eq_skeleton, k0_part281_eq_skeleton, k0_part282_eq_skeleton, k0_part283_eq_skeleton,
      k0_part284_eq_skeleton, k0_part285_eq_skeleton, k0_part286_eq_skeleton, k0_part287_eq_skeleton,
      k0_part288_eq_skeleton, k0_part289_eq_skeleton, k0_part290_eq_skeleton, k0_part291_eq_skeleton,
      k0_part292_eq_skeleton, k0_part293_eq_skeleton, k0_part294_eq_skeleton, k0_part295_eq_skeleton,
      k0_part296_eq_skeleton, k0_part297_eq_skeleton, k0_part298_eq_skeleton, k0_part299_eq_skeleton,
      k0_part300_eq_skeleton, k0_part301_eq_skeleton, k0_part302_eq_skeleton, k0_part303_eq_skeleton,
      k0_part304_eq_skeleton, k0_part305_eq_skeleton, k0_part306_eq_skeleton, k0_part307_eq_skeleton,
      k0_part308_eq_skeleton, k0_part309_eq_skeleton, k0_part310_eq_skeleton, k0_part311_eq_skeleton,
      k0_part312_eq_skeleton, k0_part313_eq_skeleton, k0_part314_eq_skeleton, k0_part315_eq_skeleton,
      k0_part316_eq_skeleton, k0_part317_eq_skeleton, k0_part318_eq_skeleton, k0_part319_eq_skeleton,
      k0_part320_eq_skeleton, k0_part321_eq_skeleton, k0_part322_eq_skeleton, k0_part323_eq_skeleton,
      k0_part324_eq_skeleton, k0_part325_eq_skeleton, k0_part326_eq_skeleton, k0_part327_eq_skeleton,
      k0_part328_eq_skeleton, k0_part329_eq_skeleton, k0_part330_eq_skeleton, k0_part331_eq_skeleton,
      k0_part332_eq_skeleton, k0_part333_eq_skeleton, k0_part334_eq_skeleton, k0_part335_eq_skeleton,
      k0_part336_eq_skeleton, k0_part337_eq_skeleton, k0_part338_eq_skeleton, k0_part339_eq_skeleton,
      k0_part340_eq_skeleton, k0_part341_eq_skeleton, k0_part342_eq_skeleton, k0_part343_eq_skeleton,
      k0_part344_eq_skeleton, k0_part345_eq_skeleton, k0_part346_eq_skeleton, k0_part347_eq_skeleton,
      k0_part348_eq_skeleton, k0_part349_eq_skeleton, k0_part350_eq_skeleton, k0_part351_eq_skeleton,
      k0_part352_eq_skeleton, k0_part353_eq_skeleton, k0_part354_eq_skeleton, k0_part355_eq_skeleton,
      k0_part356_eq_skeleton, k0_part357_eq_skeleton, k0_part358_eq_skeleton, k0_part359_eq_skeleton,
      k0_part360_eq_skeleton, k0_part361_eq_skeleton, k0_part362_eq_skeleton, k0_part363_eq_skeleton,
      k0_part364_eq_skeleton, k0_part365_eq_skeleton, k0_part366_eq_skeleton, k0_part367_eq_skeleton,
      k0_part368_eq_skeleton, k0_part369_eq_skeleton, k0_part370_eq_skeleton, k0_part371_eq_skeleton,
      k0_part372_eq_skeleton, k0_part373_eq_skeleton, k0_part374_eq_skeleton, k0_part375_eq_skeleton,
      k0_part376_eq_skeleton, k0_part377_eq_skeleton, k0_part378_eq_skeleton, k0_part379_eq_skeleton,
      k0_part380_eq_skeleton, k0_part381_eq_skeleton, k0_part382_eq_skeleton, k0_part383_eq_skeleton,
      k0_part384_eq_skeleton, k0_part385_eq_skeleton, k0_part387_eq_skeleton, k0_part388_eq_skeleton,
      k0_part389_eq_skeleton, k0_part390_eq_skeleton, k0_part391_eq_skeleton]
    sl_exec
    sl_step
    iapply Hk
    isplitl [HR]; · iexact HR
    isplitl [H4]
    · iexists _; isplitr; swap; · iexact H4
      ipureintro
      refine (View.read_writes_eq_canon _ _ _ ?_).trans ?_
      · exact View.cover_of_tiledL _ ![2, 1024] (by sl_kernel_rfl)
      · rfl
    isplitl [H5]
    · iexists _; isplitr; swap; · iexact H5
      ipureintro
      refine (View.read_writes_eq_canon _ _ _ ?_).trans ?_
      · exact View.cover_of_tiledL _ ![1, 1024] (by sl_kernel_rfl)
      · rfl
    isplitl [H9]
    · iexists _; isplitr; · ipureintro; exact harg9.read_unread _
      iexact H9
    iexists _; isplitr; · ipureintro; exact harg10.read_unread _
    iexact H10

end Cert.KernelIdeal.Adc

end
-- ==== Proof.Chunk.lean ====
module

public import proofs.«01_k».proof.Proof.First

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The words of codes `1024 j … 1024 j + 1023`, subspaces `4 g … 4 g + 3`, as 8 rows of 128. -/
def chunkWord (v5 : IVec S3x65536 32) (g : Fin 3) (j : Fin 64) : IVec S8x128 32 :=
  shapeCast S8x128 (extractStridedSlice S1x1024 ![g.val, 1024 * j.val] v5
    ⟨rfl, fun a => by
      have hg := g.isLt; have hj := j.isLt
      match a with
      | ⟨0, _⟩ => show g.val + 1 ≤ 3; omega
      | ⟨1, _⟩ => show 1024 * j.val + 1024 ≤ 65536; omega⟩) shapeCasts_S1x1024_S8x128

/-- The low seven bits of each code byte: the lane to look up. -/
def chunkIdx (w : IVec S8x128 32) : IVec S32x128 8 :=
  bitcast S32x128 8 (andi w (broadcast S8x128 2139062143#32)) bitcasts_S8x128_w32_S32x128_w8

/-- All ones in each byte whose code has its top bit set. -/
def chunkHigh (w : IVec S8x128 32) : IVec S8x128 32 :=
  muli (andi (shrsi w (broadcast S8x128 7#32)) (broadcast S8x128 16843009#32)) (broadcast S8x128 255#32)

/-- One table row looked up, byte by byte, at the lanes `idx`. -/
def gath (row : Vec F S1x8x128 .i32) (idx : IVec S32x128 8) : IVec S8x128 32 :=
  bitcast S8x128 32 (trunci 8 (dynamicGather 1
    (extsi 32 (bitcast S32x128 8 (shapeCast S8x128 row shapeCasts_S1x8x128_S8x128) bitcasts_S8x128_w32_S32x128_w8) natLt_8_32)
    (shapeCast S32x128 (shapeCast S32x128x1 (extsi 32 idx natLt_8_32) shapeCasts_S32x128_S32x128x1) shapeCasts_S32x128x1_S32x128))
    natLt_8_32) bitcasts_S32x128_w8_S8x128_w32

/-- The four looked-up bytes of one group. -/
def groupBytes (low flip : Vec F S1x8x128 .i32) (w : IVec S8x128 32) : IVec S8x128 32 :=
  xori (gath low (chunkIdx w)) (andi (gath flip (chunkIdx w)) (chunkHigh w))

/-- Neighbouring bytes added: two sums of two bytes in each word. -/
def pairSums (v : IVec S8x128 32) : IVec S8x128 32 :=
  addi (andi v (broadcast S8x128 16711935#32)) (andi (shrsi v (broadcast S8x128 8#32)) (broadcast S8x128 16711935#32))

/-- A row of the table, and a row of the scales, as the body loads them. -/
def tabRow (arg9 : Memref sig .tc .vmem S12x8x128 .i32) (harg9 : arg9.IsWhole) (T : Vec F S12x8x128 .i32) (r : Fin 12) : Vec F S1x8x128 .i32 :=
  arg9.view.readAt (Elt F) (Rect.unit (s := S12x8x128) ![r.val, 0, 0] S1x8x128.size (fun a => by
      have hr := r.isLt
      match a with
      | ⟨0, _⟩ => show r.val + 1 ≤ 12; omega
      | ⟨1, _⟩ => show 0 + 8 ≤ 8; omega
      | ⟨2, _⟩ => show 0 + 128 ≤ 128; omega)).toLoadRect (harg9.unread T)
def sbRow (arg10 : Memref sig .tc .vmem S4x8x128 .f32) (harg10 : arg10.IsWhole) (S : Vec F S4x8x128 .f32) (r : Fin 4) : Vec F S1x8x128 .f32 :=
  arg10.view.readAt (Elt F) (Rect.unit (s := S4x8x128) ![r.val, 0, 0] S1x8x128.size (fun a => by
      have hr := r.isLt
      match a with
      | ⟨0, _⟩ => show r.val + 1 ≤ 4; omega
      | ⟨1, _⟩ => show 0 + 8 ≤ 8; omega
      | ⟨2, _⟩ => show 0 + 128 ≤ 128; omega)).toLoadRect (harg10.unread S)

/-- The sum of two packed 16-bit halves. -/
def halves (acc : IVec S8x128 32) : IVec S8x128 32 :=
  addi (andi acc (broadcast S8x128 65535#32)) (shrsi acc (broadcast S8x128 16#32))

/-- The integer distances of one chunk to one query, from the twelve table rows. -/
def chunkTotal (row : Fin 12 → Vec F S1x8x128 .i32) (v5 : IVec S3x65536 32) (b : Fin 2) (j : Fin 64) : IVec S8x128 32 :=
  halves (addi (addi
    (pairSums (groupBytes (row ⟨2 * b.val, by omega⟩) (row ⟨2 * b.val + 1, by omega⟩) (chunkWord v5 0 j)))
    (pairSums (groupBytes (row ⟨4 + 2 * b.val, by omega⟩) (row ⟨4 + 2 * b.val + 1, by omega⟩) (chunkWord v5 1 j))))
    (pairSums (groupBytes (row ⟨8 + 2 * b.val, by omega⟩) (row ⟨8 + 2 * b.val + 1, by omega⟩) (chunkWord v5 2 j))))

/-- The distances of one chunk to one query. -/
def chunkDist (row : Fin 12 → Vec F S1x8x128 .i32) (srow : Fin 4 → Vec F S1x8x128 .f32) (v5 : IVec S3x65536 32) (b : Fin 2) (j : Fin 64) :
    FVec F S8x128 .f32 :=
  addf (mulf (shapeCast S8x128 (srow ⟨2 * b.val, by omega⟩) shapeCasts_S1x8x128_S8x128) (sitofp .f32 (chunkTotal row v5 b j)))
    (shapeCast S8x128 (srow ⟨2 * b.val + 1, by omega⟩) shapeCasts_S1x8x128_S8x128)

/-- What the body stores to the integer distances, for query `b` and chunk `j`. -/
def intPiece (row : Fin 12 → Vec F S1x8x128 .i32) (v5 : IVec S3x65536 32) (b : Fin 2) (j : Fin 64) : View.Piece (Elt F) S2x65536 .i32 :=
  ⟨Rect.unit (s := S2x65536) ![b.val, 1024 * j.val] S1x1024.size (fun a => by
      have hb := b.isLt; have hj := j.isLt
      match a with
      | ⟨0, _⟩ => show b.val + 1 ≤ 2; omega
      | ⟨1, _⟩ => show 1024 * j.val + 1024 ≤ 65536; omega),
    shapeCast S1x1024 (chunkTotal row v5 b j) shapeCasts_S8x128_S1x1024⟩

/-- What the body stores to the distances, for chunk `j`: both queries' rows. -/
def distPiece (row : Fin 12 → Vec F S1x8x128 .i32) (srow : Fin 4 → Vec F S1x8x128 .f32) (v5 : IVec S3x65536 32) (j : Fin 64) :
    View.Piece (Elt F) S2x65536 .bf16 :=
  ⟨Rect.unit (s := S2x65536) ![0, 1024 * j.val] S2x1024.size (fun a => by
      have hj := j.isLt
      match a with
      | ⟨0, _⟩ => show 0 + 2 ≤ 2; omega
      | ⟨1, _⟩ => show 1024 * j.val + 1024 ≤ 65536; omega),
    interleaveRows S2x1024
      (shapeCast S1x1024 (truncf .bf16 (chunkDist row srow v5 0 j) : FVec F S8x128 .bf16) shapeCasts_S8x128_S1x1024)
      (shapeCast S1x1024 (truncf .bf16 (chunkDist row srow v5 1 j) : FVec F S8x128 .bf16) shapeCasts_S8x128_S1x1024)
      bitcasts_S2x1024_w16_S1x1024_w32⟩

end Cert.KernelIdeal.Adc

end
-- ==== Proof.Pieces.lean ====
module

public import proofs.«01_k».proof.Proof.MainRun
public import proofs.«01_k».proof.Proof.Chunk

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The pieces the run found in the integer distances are those of the chunks, the last chunk first. -/
theorem mainRun_int (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (v3 : Vec F S12x65536 .i8) (T : Vec F S12x8x128 .i32) (S : Vec F S4x8x128 .f32) :
    (mainRun c i arg1 harg1 arg2 harg2 arg3 harg3 arg4 harg4 arg5 harg5 arg6 harg6 arg7 harg7 arg8 harg8 arg9 harg9 arg10 harg10
      (k0_pay174 v3) (k0_pay176 v3) (k0_pay177 v3) (k0_pay178 v3 (tabRow arg9 harg9 T 0) (tabRow arg9 harg9 T 1))
      (k0_pay179 v3 (tabRow arg9 harg9 T 0) (tabRow arg9 harg9 T 1)) k0_pay180 T S).2.1
      = List.ofFn fun p : Fin 128 => intPiece (tabRow arg9 harg9 T) (k0_pay174 v3) ⟨1 - p.val % 2, by omega⟩ ⟨63 - p.val / 2, by omega⟩ := by
  sl_kernel_rfl

set_option maxHeartbeats 4000000 in
/-- The pieces the run found in the distances are those of the chunks, the last chunk first. -/
theorem mainRun_dist (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (v3 : Vec F S12x65536 .i8) (T : Vec F S12x8x128 .i32) (S : Vec F S4x8x128 .f32) :
    (mainRun c i arg1 harg1 arg2 harg2 arg3 harg3 arg4 harg4 arg5 harg5 arg6 harg6 arg7 harg7 arg8 harg8 arg9 harg9 arg10 harg10
      (k0_pay174 v3) (k0_pay176 v3) (k0_pay177 v3) (k0_pay178 v3 (tabRow arg9 harg9 T 0) (tabRow arg9 harg9 T 1))
      (k0_pay179 v3 (tabRow arg9 harg9 T 0) (tabRow arg9 harg9 T 1)) k0_pay180 T S).1
      = List.ofFn fun p : Fin 64 => distPiece (tabRow arg9 harg9 T) (sbRow arg10 harg10 S) (k0_pay174 v3) ⟨63 - p.val, by omega⟩ := by
  sl_kernel_rfl

end Cert.KernelIdeal.Adc

end
-- ==== Proof.BuildRun.lean ====
module

public import proofs.«01_k».proof.Proof.First

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 9600000 in
/-- The first stretch at point 0: the body builds the tables, leaving the three table windows and the two scratch buffers at what
    its stores wrote (the pieces the run finds), and loads the code block and the first two table rows. -/
def buildRun (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    Σ' (L6 : List (View.Piece (Elt F) S2x12x256 .i8)) (L7 : List (View.Piece (Elt F) S2x12 .f32)) (L8 : List (View.Piece (Elt F) S1x2 .f32))
      (L9 : List (View.Piece (Elt F) S12x8x128 .i32)), { L10 : List (View.Piece (Elt F) S4x8x128 .f32) //
      ∀ (E : Set ℕ) (K : _ → sProp 𝕄),
        iprop((iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)))
            ∗ (iprop(iprop(owns (c : Thread nD τ) arg1 fullShare x0 ∗ owns (c : Thread nD τ) arg2 fullShare x1 ∗ owns (c : Thread nD τ) arg6 fullShare (View.canon L6) ∗ owns (c : Thread nD τ) arg7 fullShare (View.canon L7) ∗ owns (c : Thread nD τ) arg8 fullShare (View.canon L8))
                ∗ owns (c : Thread nD τ) arg3 fullShare x2 ∗ owns (c : Thread nD τ) arg9 fullShare (View.canon L9) ∗ owns (c : Thread nD τ) arg10 fullShare (View.canon L10))
              -∗ K (firstVals arg3 harg3 x2 (View.canon L9))))
          ⊢ wp frame (wpE (defs₀ (F := F)) Variants.none c none) E (k0_part26 i arg1 harg1 arg2 harg2 arg3 harg3 arg4 harg4 arg5 harg5 arg6 harg6 arg7 harg7 arg8 harg8 arg9 harg9 arg10 harg10) K } := by
  refine ⟨?_, ?_, ?_, ?_, ?_, ?prf⟩
  case prf =>
    intro E K
    simp only [k0_part26_eq_skeleton]; unfold k0_part26_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton]
    unfold owns
    iintro ⟨⟨⟨%f0, %hf0, H1⟩, ⟨%f1, %hf1, H2⟩, ⟨%f2, %hf2, H3⟩, ⟨%d6, %f6, -, H6⟩, ⟨%d7, %f7, -, H7⟩, ⟨%d8, %f8, -, H8⟩, ⟨%d9, %f9, -, H9⟩, ⟨%d10, %f10, -, H10⟩⟩, Hk⟩
    obtain rfl := harg1.eq_unread hf0; obtain rfl := harg2.eq_unread hf1; obtain rfl := harg3.eq_unread hf2
    sl_exec (disch := first | sl_exact hc0)
    sl_step
    have e17 : buildRun.sl.v17 c arg1 harg1 arg2 harg2 arg9 x0 x1 = rowLoad0 _ := View.readCov_eq_canon' _ _ _
    have e27 : buildRun.sl.v27 c arg1 harg1 arg2 harg2 arg9 x0 x1 = rowLoad1 _ := View.readCov_eq_canon' _ _ _
    rw [e17, e27]
    iapply Hk
    isplitl [H1 H2 H6 H7 H8]
    · isplitl [H1]
      · iexists _; isplitr; · ipureintro; exact harg1.read_unread _
        iexact H1
      isplitl [H2]
      · iexists _; isplitr; · ipureintro; exact harg2.read_unread _
        iexact H2
      isplitl [H6]
      · iexists _; isplitr; swap; · iexact H6
        ipureintro
        refine (View.read_writes_eq_canon _ _ _ ?_).trans ?_
        · exact View.cover_of_tiledL _ ![1, 12, 256] (by sl_kernel_rfl)
        · rfl
      isplitl [H7]
      · iexists _; isplitr; swap; · iexact H7
        ipureintro
        refine (View.read_writes_eq_canon _ _ _ ?_).trans ?_
        · exact View.cover_of_tiledL _ ![1, 12] (by sl_kernel_rfl)
        · rfl
      iexists _; isplitr; swap; · iexact H8
      ipureintro
      refine (View.read_writes_eq_canon _ _ _ ?_).trans ?_
      · exact View.cover_of_tiledL _ ![1, 1] (by sl_kernel_rfl)
      · rfl
    isplitl [H3]
    · iexists _; isplitr; · ipureintro; exact harg3.read_unread _
      iexact H3
    isplitl [H9]
    · iexists _; isplitr; swap; · iexact H9
      ipureintro
      refine (View.read_writes_eq_canon _ _ _ ?_).trans ?_
      · exact View.cover_of_tiledL _ ![1, 8, 128] (by sl_kernel_rfl)
      · rfl
    iexists _; isplitr; swap; · iexact H10
    ipureintro
    refine (View.read_writes_eq_canon _ _ _ ?_).trans ?_
    · exact View.cover_of_tiledL _ ![1, 8, 128] (by sl_kernel_rfl)
    · rfl

end Cert.KernelIdeal.Adc

end
-- ==== Proof.Table.lean ====
module

public import proofs.«01_k».proof.Proof.First

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The query block and a codebook plane, as the body loads them. -/
def xLoad (arg1 : Memref sig .tc .vmem S2x96 .bf16) (harg1 : arg1.IsWhole) (x0 : Vec F S2x96 .bf16) : Vec F S2x96 .bf16 :=
  arg1.view.readAt (Elt F) (Rect.unit (s := S2x96) ![0, 0] S2x96.size inb_S2x96_S2x96_0_0).toLoadRect (harg1.unread x0)
def cbRow (arg2 : Memref sig .tc .vmem S12x8x256 .f32) (harg2 : arg2.IsWhole) (x1 : Vec F S12x8x256 .f32) (m : Fin 12) : Vec F S1x8x256 .f32 :=
  arg2.view.readAt (Elt F) (Rect.unit (s := S12x8x256) ![m.val, 0, 0] S1x8x256.size (fun a => by
      have hm := m.isLt
      match a with
      | ⟨0, _⟩ => show m.val + 1 ≤ 12; omega
      | ⟨1, _⟩ => show 0 + 8 ≤ 8; omega
      | ⟨2, _⟩ => show 0 + 256 ≤ 256; omega)).toLoadRect (harg2.unread x1)

/-- Query `b` on each of eight rows. -/
def queryRows (x : Vec F S2x96 .bf16) (b : Fin 2) : FVec F S8x96 .f32 :=
  broadcastTo S8x96 (shapeCast S1x96 (extractStridedSlice S1x96 ![b.val, 0] (extf .f32 x bitsLt_bf16_f32)
    ⟨rfl, fun a => by
      have hb := b.isLt
      match a with
      | ⟨0, _⟩ => show b.val + 1 ≤ 2; omega
      | ⟨1, _⟩ => show 0 + 96 ≤ 96; omega⟩) shapeCasts_S1x96_S1x96) broadcasts_S1x96_S8x96

/-- Subvector `m` of query `b` as a column: the sum along a row of which all but one entry is masked out. -/
def queryCol (x : Vec F S2x96 .bf16) (b : Fin 2) (m : Fin 12) : FVec F S8x1 .f32 :=
  shapeCast S8x1 (multiReduction .add [1] S8
    (select (cmpi .eq (iota .tc S8x96 32 [1] iota_S8x96_d1_w32)
        (addi (iota .tc S8x96 32 [0] iota_S8x96_d0_w32) (broadcast S8x96 (BitVec.ofNat 32 (8 * m.val)))))
      (queryRows x b) (broadcast S8x96 (Scalar.ofBits .f32 0x00000000#32 : F .f32)))
    0x00000000#32 reduces_S8x96_S8 (.inl rfl) rfl) shapeCasts_S8_S8x1

/-- The squared differences to the centroids of subspace `m`. -/
def sqDiff (x : Vec F S2x96 .bf16) (cb : Fin 12 → Vec F S1x8x256 .f32) (b : Fin 2) (m : Fin 12) : FVec F S8x256 .f32 :=
  mulf (subf (broadcastTo S8x256 (queryCol x b m) broadcasts_S8x1_S8x256) (shapeCast S8x256 (cb m) shapeCasts_S1x8x256_S8x256))
    (subf (broadcastTo S8x256 (queryCol x b m) broadcasts_S8x1_S8x256) (shapeCast S8x256 (cb m) shapeCasts_S1x8x256_S8x256))

/-- One step of the sum over the eight rows: a vector plus itself rotated. -/
def rotAdd (n : BitVec 32) (v : FVec F S8x256 .f32) : FVec F S8x256 .f32 := addf v (dynamicRotate 0 n none v rotates_S8x256_d0)

/-- The sums over the eight rows, on every row. -/
def lutRows (x : Vec F S2x96 .bf16) (cb : Fin 12 → Vec F S1x8x256 .f32) (b : Fin 2) (m : Fin 12) : FVec F S8x256 .f32 :=
  rotAdd 1#32 (rotAdd 2#32 (rotAdd 4#32 (sqDiff x cb b m)))

/-- The least entry of each row, as a column. -/
def biasCol (x : Vec F S2x96 .bf16) (cb : Fin 12 → Vec F S1x8x256 .f32) (b : Fin 2) (m : Fin 12) : FVec F S8x1 .f32 :=
  shapeCast S8x1 (multiReduction .minimumf [1] S8 (lutRows x cb b m) 0x7F800000#32 reduces_S8x256_S8 (.inl rfl) rfl) shapeCasts_S8_S8x1

/-- Each entry above the least. -/
def relRows (x : Vec F S2x96 .bf16) (cb : Fin 12 → Vec F S1x8x256 .f32) (b : Fin 2) (m : Fin 12) : FVec F S8x256 .f32 :=
  subf (lutRows x cb b m) (broadcastTo S8x256 (biasCol x cb b m) broadcasts_S8x1_S8x256)

/-- The entrywise greatest of the first `n + 1` subspaces. -/
def relMax (x : Vec F S2x96 .bf16) (cb : Fin 12 → Vec F S1x8x256 .f32) (b : Fin 2) : ℕ → FVec F S8x256 .f32
  | 0 => relRows x cb b 0
  | n + 1 => maximumf (relMax x cb b n) (relRows x cb b (Fin.ofNat 12 (n + 1)))

/-- The greatest entry, as a column. -/
def amaxCol (x : Vec F S2x96 .bf16) (cb : Fin 12 → Vec F S1x8x256 .f32) (b : Fin 2) : FVec F S8x1 .f32 :=
  shapeCast S8x1 (multiReduction .maximumf [1] S8 (relMax x cb b 11) 0xFF800000#32 reduces_S8x256_S8 (.inl rfl) rfl) shapeCasts_S8_S8x1

/-- The scale, as a column. -/
def scaleCol (x : Vec F S2x96 .bf16) (cb : Fin 12 → Vec F S1x8x256 .f32) (b : Fin 2) : FVec F S8x1 .f32 :=
  select (cmpf .ogt (amaxCol x cb b) (broadcast S8x1 (Scalar.ofBits .f32 0x00000000#32 : F .f32)))
    (divf (amaxCol x cb b) (broadcast S8x1 (Scalar.ofBits .f32 0x437F0000#32 : F .f32)))
    (broadcast S8x1 (Scalar.ofBits .f32 0x3F800000#32 : F .f32))

/-- The table codes of subspace `m`, on every row. -/
def codeRows (x : Vec F S2x96 .bf16) (cb : Fin 12 → Vec F S1x8x256 .f32) (b : Fin 2) (m : Fin 12) : IVec S8x256 32 :=
  fptosi 32 (minimumf (broadcast S8x256 (Scalar.ofBits .f32 0x437F0000#32 : F .f32))
    (maximumf (broadcast S8x256 (Scalar.ofBits .f32 0x00000000#32 : F .f32))
      (roundeven (divf (relRows x cb b m) (broadcastTo S8x256 (scaleCol x cb b) broadcasts_S8x1_S8x256)))))

/-- The biases of the first `n` subspaces in their lanes. -/
def biasRow (x : Vec F S2x96 .bf16) (cb : Fin 12 → Vec F S1x8x256 .f32) (b : Fin 2) : ℕ → FVec F S8x12 .f32
  | 0 => broadcast S8x12 (Scalar.ofBits .f32 0x00000000#32 : F .f32)
  | n + 1 => select (cmpi .eq (iota .tc S8x12 32 [1] iota_S8x12_d1_w32) (broadcast S8x12 (BitVec.ofNat 32 n)))
      (broadcastTo S8x12 (shapeCast S8x1 (biasCol x cb b (Fin.ofNat 12 n)) shapeCasts_S8x1_S8x1) broadcasts_S8x1_S8x12) (biasRow x cb b n)

/-- The first row of one subspace's codes. -/
def codeRow0 (x : Vec F S2x96 .bf16) (cb : Fin 12 → Vec F S1x8x256 .f32) (b : Fin 2) (m : Fin 12) : IVec S1x256 32 :=
  extractStridedSlice S1x256 ![0, 0] (codeRows x cb b m) slices_S8x256_o0_0_S1x256

/-- The codes of one query as stored. -/
def codesBlock (x : Vec F S2x96 .bf16) (cb : Fin 12 → Vec F S1x8x256 .f32) (b : Fin 2) : IVec S1x12x256 8 :=
  shapeCast S1x12x256 (trunci 8 (concatenate S12x256 0 [⟨S1x256, codeRow0 x cb b 0⟩, ⟨S1x256, codeRow0 x cb b 1⟩, ⟨S1x256, codeRow0 x cb b 2⟩, ⟨S1x256, codeRow0 x cb b 3⟩, ⟨S1x256, codeRow0 x cb b 4⟩, ⟨S1x256, codeRow0 x cb b 5⟩, ⟨S1x256, codeRow0 x cb b 6⟩, ⟨S1x256, codeRow0 x cb b 7⟩, ⟨S1x256, codeRow0 x cb b 8⟩, ⟨S1x256, codeRow0 x cb b 9⟩, ⟨S1x256, codeRow0 x cb b 10⟩, ⟨S1x256, codeRow0 x cb b 11⟩]
    concatenates_S1x256_S1x256_S1x256_S1x256_S1x256_S1x256_S1x256_S1x256_S1x256_S1x256_S1x256_S1x256_S12x256_d0)
    natLt_8_32) shapeCasts_S12x256_S1x12x256

/-- Four subspaces' codes packed in one word. -/
def packWord (x : Vec F S2x96 .bf16) (cb : Fin 12 → Vec F S1x8x256 .f32) (b : Fin 2) (g : Fin 3) : IVec S8x256 32 :=
  ori (ori (ori (codeRows x cb b ⟨4 * g.val, by omega⟩) (shli (codeRows x cb b ⟨4 * g.val + 1, by omega⟩) (broadcast S8x256 8#32)))
    (shli (codeRows x cb b ⟨4 * g.val + 2, by omega⟩) (broadcast S8x256 16#32)))
    (shli (codeRows x cb b ⟨4 * g.val + 3, by omega⟩) (broadcast S8x256 24#32))

/-- The words of the first 128 centroids, and what turns them into those of the last 128. -/
def lowWord (x : Vec F S2x96 .bf16) (cb : Fin 12 → Vec F S1x8x256 .f32) (b : Fin 2) (g : Fin 3) : IVec S8x128 32 :=
  extractStridedSlice S8x128 ![0, 0] (packWord x cb b g) slices_S8x256_o0_0_S8x128
def flipWord (x : Vec F S2x96 .bf16) (cb : Fin 12 → Vec F S1x8x256 .f32) (b : Fin 2) (g : Fin 3) : IVec S8x128 32 :=
  xori (lowWord x cb b g) (extractStridedSlice S8x128 ![0, 128] (packWord x cb b g) slices_S8x256_o0_128_S8x128)

/-- What the body stores to row `r` of the table, and to row `r` of the scales. -/
def tabPiece (x : Vec F S2x96 .bf16) (cb : Fin 12 → Vec F S1x8x256 .f32) (r : Fin 12) : View.Piece (Elt F) S12x8x128 .i32 :=
  ⟨Rect.unit (s := S12x8x128) ![r.val, 0, 0] S1x8x128.size (fun a => by
      have hr := r.isLt
      match a with
      | ⟨0, _⟩ => show r.val + 1 ≤ 12; omega
      | ⟨1, _⟩ => show 0 + 8 ≤ 8; omega
      | ⟨2, _⟩ => show 0 + 128 ≤ 128; omega),
    shapeCast S1x8x128 (bif r.val % 2 == 0 then lowWord x cb ⟨r.val / 2 % 2, by omega⟩ ⟨r.val / 4, by omega⟩
      else flipWord x cb ⟨r.val / 2 % 2, by omega⟩ ⟨r.val / 4, by omega⟩) shapeCasts_S8x128_S1x8x128⟩
def sbPiece (x : Vec F S2x96 .bf16) (cb : Fin 12 → Vec F S1x8x256 .f32) (r : Fin 4) : View.Piece (Elt F) S4x8x128 .f32 :=
  ⟨Rect.unit (s := S4x8x128) ![r.val, 0, 0] S1x8x128.size (fun a => by
      have hr := r.isLt
      match a with
      | ⟨0, _⟩ => show r.val + 1 ≤ 4; omega
      | ⟨1, _⟩ => show 0 + 8 ≤ 8; omega
      | ⟨2, _⟩ => show 0 + 128 ≤ 128; omega),
    shapeCast S1x8x128 (broadcastTo S8x128 (shapeCast S8x1 (bif r.val % 2 == 0 then scaleCol x cb ⟨r.val / 2, by omega⟩
      else shapeCast S8x1 (multiReduction .add [1] S8 (biasRow x cb ⟨r.val / 2, by omega⟩ 12) 0x00000000#32 reduces_S8x12_S8 (.inl rfl) rfl)
        shapeCasts_S8_S8x1) shapeCasts_S8x1_S8x1) broadcasts_S8x1_S8x128) shapeCasts_S8x128_S1x8x128⟩

/-- What the body stores to the three table results, for query `b`. -/
def lutcPiece (x : Vec F S2x96 .bf16) (cb : Fin 12 → Vec F S1x8x256 .f32) (b : Fin 2) : View.Piece (Elt F) S2x12x256 .i8 :=
  ⟨Rect.unit (s := S2x12x256) ![b.val, 0, 0] S1x12x256.size (fun a => by
      have hb := b.isLt
      match a with
      | ⟨0, _⟩ => show b.val + 1 ≤ 2; omega
      | ⟨1, _⟩ => show 0 + 12 ≤ 12; omega
      | ⟨2, _⟩ => show 0 + 256 ≤ 256; omega), codesBlock x cb b⟩
def lutbPiece (x : Vec F S2x96 .bf16) (cb : Fin 12 → Vec F S1x8x256 .f32) (b : Fin 2) : View.Piece (Elt F) S2x12 .f32 :=
  ⟨Rect.unit (s := S2x12) ![b.val, 0] S1x12.size (fun a => by
      have hb := b.isLt
      match a with
      | ⟨0, _⟩ => show b.val + 1 ≤ 2; omega
      | ⟨1, _⟩ => show 0 + 12 ≤ 12; omega),
    extractStridedSlice S1x12 ![0, 0] (biasRow x cb b 12) slices_S8x12_o0_0_S1x12⟩
def lutsPiece (x : Vec F S2x96 .bf16) (cb : Fin 12 → Vec F S1x8x256 .f32) (b : Fin 2) : View.Piece (Elt F) S1x2 .f32 :=
  ⟨Rect.unit (s := S1x2) ![0, b.val] S1x1.size (fun a => by
      have hb := b.isLt
      match a with
      | ⟨0, _⟩ => show 0 + 1 ≤ 1; omega
      | ⟨1, _⟩ => show b.val + 1 ≤ 2; omega),
    extractStridedSlice S1x1 ![0, 0] (scaleCol x cb b) slices_S8x1_o0_0_S1x1⟩

end Cert.KernelIdeal.Adc

end
-- ==== Proof.TablePieces.lean ====
module

public import proofs.«01_k».proof.Proof.BuildRun
public import proofs.«01_k».proof.Proof.Table

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The codes, query by query. -/
theorem buildRun_lutc (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    (buildRun c i arg1 harg1 arg2 harg2 arg3 harg3 arg4 harg4 arg5 harg5 arg6 harg6 arg7 harg7 arg8 harg8 arg9 harg9 arg10 harg10 hc0 x0 x1 x2).1
      = List.ofFn fun p : Fin 2 => lutcPiece (xLoad arg1 harg1 x0) (cbRow arg2 harg2 x1) ⟨1 - p.val, by omega⟩ := by
  sl_kernel_rfl

/-- The biases, query by query. -/
theorem buildRun_lutb (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    (buildRun c i arg1 harg1 arg2 harg2 arg3 harg3 arg4 harg4 arg5 harg5 arg6 harg6 arg7 harg7 arg8 harg8 arg9 harg9 arg10 harg10 hc0 x0 x1 x2).2.1
      = List.ofFn fun p : Fin 2 => lutbPiece (xLoad arg1 harg1 x0) (cbRow arg2 harg2 x1) ⟨1 - p.val, by omega⟩ := by
  sl_kernel_rfl

/-- The scales, query by query. -/
theorem buildRun_luts (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    (buildRun c i arg1 harg1 arg2 harg2 arg3 harg3 arg4 harg4 arg5 harg5 arg6 harg6 arg7 harg7 arg8 harg8 arg9 harg9 arg10 harg10 hc0 x0 x1 x2).2.2.1
      = List.ofFn fun p : Fin 2 => lutsPiece (xLoad arg1 harg1 x0) (cbRow arg2 harg2 x1) ⟨1 - p.val, by omega⟩ := by
  sl_kernel_rfl

/-- The twelve rows of the packed table. -/
theorem buildRun_tab (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    (buildRun c i arg1 harg1 arg2 harg2 arg3 harg3 arg4 harg4 arg5 harg5 arg6 harg6 arg7 harg7 arg8 harg8 arg9 harg9 arg10 harg10 hc0 x0 x1 x2).2.2.2.1
      = List.ofFn fun p : Fin 12 => tabPiece (xLoad arg1 harg1 x0) (cbRow arg2 harg2 x1) ⟨11 - p.val, by omega⟩ := by
  sl_kernel_rfl

/-- The scale and the summed bias of each query, spread over a register. -/
theorem buildRun_sb (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) :
    (buildRun c i arg1 harg1 arg2 harg2 arg3 harg3 arg4 harg4 arg5 harg5 arg6 harg6 arg7 harg7 arg8 harg8 arg9 harg9 arg10 harg10 hc0 x0 x1 x2).2.2.2.2.1
      = List.ofFn fun p : Fin 4 => sbPiece (xLoad arg1 harg1 x0) (cbRow arg2 harg2 x1) ⟨3 - p.val, by omega⟩ := by
  sl_kernel_rfl

end Cert.KernelIdeal.Adc

end
-- ==== Proof.Contents.lean ====
module

public import proofs.«01_k».proof.Proof.Chunk
public import proofs.«01_k».proof.Proof.Table
public import Idealize.ShloMosaic.Lib.WholeRead
public import Idealize.ShloMosaic.Lib.ValueIdxCore
public import Idealize.ShloMosaic.Lib.ValueLayout

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- A plane of the codebooks, a row of the table, a row of the scales. -/
def cbOf (x1 : Vec F S12x8x256 .f32) (m : Fin 12) : Vec F S1x8x256 .f32 := fun j => x1 (ValueIdx.ix3 m (j 1) (j 2))
def rowOf (T : Vec F S12x8x128 .i32) (r : Fin 12) : Vec F S1x8x128 .i32 := fun j => T (ValueIdx.ix3 r (j 1) (j 2))
def srowOf (S : Vec F S4x8x128 .f32) (r : Fin 4) : Vec F S1x8x128 .f32 := fun j => S (ValueIdx.ix3 r (j 1) (j 2))

/-- A load through a whole buffer's view. -/
theorem readAt_whole {sp : Space} {s : Shape} {e : EltTy} {m : Memref sig .tc sp s e} (h : m.IsWhole) (X : s.Idx → Elt F e) (B : LoadRect s) :
    View.readAt (Elt F) m.view B (h.unread X) = fun x => X (B.idx x) := funext fun x => h.readAt_unread X B x

/-- The load of the queries reads the whole buffer. -/
theorem xLoad_eq (arg1 : Memref sig .tc .vmem S2x96 .bf16) (harg1 : arg1.IsWhole) (x0 : Vec F S2x96 .bf16) : xLoad arg1 harg1 x0 = x0 := by
  unfold xLoad
  rw [readAt_whole]
  funext j; refine congrArg x0 (funext fun a => Fin.ext ?_)
  match a with
  | ⟨0, _⟩ => show 0 + 1 * (j 0).val = (j 0).val; omega
  | ⟨1, _⟩ => show 0 + 1 * (j 1).val = (j 1).val; omega

/-- The load of the code block reads the whole buffer. -/
theorem codesLoad_eq (arg3 : Memref sig .tc .vmem S12x65536 .i8) (harg3 : arg3.IsWhole) (x2 : Vec F S12x65536 .i8) :
    codesLoad arg3 harg3 x2 = x2 := by
  unfold codesLoad
  rw [readAt_whole]
  funext j; refine congrArg x2 (funext fun a => Fin.ext ?_)
  match a with
  | ⟨0, _⟩ => show 0 + 1 * (j 0).val = (j 0).val; omega
  | ⟨1, _⟩ => show 0 + 1 * (j 1).val = (j 1).val; omega

/-- The load of a plane of the codebooks reads that plane. -/
theorem cbRow_eq (arg2 : Memref sig .tc .vmem S12x8x256 .f32) (harg2 : arg2.IsWhole) (x1 : Vec F S12x8x256 .f32) :
    cbRow arg2 harg2 x1 = cbOf x1 := by
  funext m; unfold cbRow
  rw [readAt_whole]
  funext j; refine congrArg x1 (funext fun a => Fin.ext ?_)
  match a with
  | ⟨0, _⟩ => have : (j 0).val < 1 := (j 0).isLt
              show m.val + 1 * (j 0).val = m.val; omega
  | ⟨1, _⟩ => show 0 + 1 * (j 1).val = (j 1).val; omega
  | ⟨2, _⟩ => show 0 + 1 * (j 2).val = (j 2).val; omega

/-- The load of a row of the table reads that row. -/
theorem tabRow_eq (arg9 : Memref sig .tc .vmem S12x8x128 .i32) (harg9 : arg9.IsWhole) (T : Vec F S12x8x128 .i32) :
    tabRow arg9 harg9 T = rowOf T := by
  funext m; unfold tabRow
  rw [readAt_whole]
  funext j; refine congrArg T (funext fun a => Fin.ext ?_)
  match a with
  | ⟨0, _⟩ => have : (j 0).val < 1 := (j 0).isLt
              show m.val + 1 * (j 0).val = m.val; omega
  | ⟨1, _⟩ => show 0 + 1 * (j 1).val = (j 1).val; omega
  | ⟨2, _⟩ => show 0 + 1 * (j 2).val = (j 2).val; omega

/-- The load of a row of the scales reads that row. -/
theorem sbRow_eq (arg10 : Memref sig .tc .vmem S4x8x128 .f32) (harg10 : arg10.IsWhole) (S : Vec F S4x8x128 .f32) :
    sbRow arg10 harg10 S = srowOf S := by
  funext m; unfold sbRow
  rw [readAt_whole]
  funext j; refine congrArg S (funext fun a => Fin.ext ?_)
  match a with
  | ⟨0, _⟩ => have : (j 0).val < 1 := (j 0).isLt
              show m.val + 1 * (j 0).val = m.val; omega
  | ⟨1, _⟩ => show 0 + 1 * (j 1).val = (j 1).val; omega
  | ⟨2, _⟩ => show 0 + 1 * (j 2).val = (j 2).val; omega

/-- The first row loaded is row 0 of the table. -/
theorem rowLoad0_eq (arg9 : Memref sig .tc .vmem S12x8x128 .i32) (harg9 : arg9.IsWhole) (T : Vec F S12x8x128 .i32) :
    rowLoad0 T = tabRow arg9 harg9 T 0 := by unfold tabRow; rw [readAt_whole]; rfl
/-- The second row loaded is row 1 of the table. -/
theorem rowLoad1_eq (arg9 : Memref sig .tc .vmem S12x8x128 .i32) (harg9 : arg9.IsWhole) (T : Vec F S12x8x128 .i32) :
    rowLoad1 T = tabRow arg9 harg9 T 1 := by unfold tabRow; rw [readAt_whole]; rfl

/-- What the build leaves in the table, the scales and the three table results. -/
def tabOf (x0 : Vec F S2x96 .bf16) (x1 : Vec F S12x8x256 .f32) : Vec F S12x8x128 .i32 :=
  View.canon (List.ofFn fun p : Fin 12 => tabPiece x0 (cbOf x1) ⟨11 - p.val, by omega⟩)
def sbOf (x0 : Vec F S2x96 .bf16) (x1 : Vec F S12x8x256 .f32) : Vec F S4x8x128 .f32 :=
  View.canon (List.ofFn fun p : Fin 4 => sbPiece x0 (cbOf x1) ⟨3 - p.val, by omega⟩)
def lutcOf (x0 : Vec F S2x96 .bf16) (x1 : Vec F S12x8x256 .f32) : Vec F S2x12x256 .i8 :=
  View.canon (List.ofFn fun p : Fin 2 => lutcPiece x0 (cbOf x1) ⟨1 - p.val, by omega⟩)
def lutbOf (x0 : Vec F S2x96 .bf16) (x1 : Vec F S12x8x256 .f32) : Vec F S2x12 .f32 :=
  View.canon (List.ofFn fun p : Fin 2 => lutbPiece x0 (cbOf x1) ⟨1 - p.val, by omega⟩)
def lutsOf (x0 : Vec F S2x96 .bf16) (x1 : Vec F S12x8x256 .f32) : Vec F S1x2 .f32 :=
  View.canon (List.ofFn fun p : Fin 2 => lutsPiece x0 (cbOf x1) ⟨1 - p.val, by omega⟩)

/-! The same, as equations. -/
theorem tabOf_def (x0 : Vec F S2x96 .bf16) (x1 : Vec F S12x8x256 .f32) : tabOf x0 x1 = View.canon (List.ofFn fun p : Fin 12 => tabPiece x0 (cbOf x1) ⟨11 - p.val, by omega⟩) := rfl
/-- The scales, from their pieces. -/
theorem sbOf_def (x0 : Vec F S2x96 .bf16) (x1 : Vec F S12x8x256 .f32) : sbOf x0 x1 = View.canon (List.ofFn fun p : Fin 4 => sbPiece x0 (cbOf x1) ⟨3 - p.val, by omega⟩) := rfl
/-- The codes of the table, from their pieces. -/
theorem lutcOf_def (x0 : Vec F S2x96 .bf16) (x1 : Vec F S12x8x256 .f32) : lutcOf x0 x1 = View.canon (List.ofFn fun p : Fin 2 => lutcPiece x0 (cbOf x1) ⟨1 - p.val, by omega⟩) := rfl
/-- The least distances, from their pieces. -/
theorem lutbOf_def (x0 : Vec F S2x96 .bf16) (x1 : Vec F S12x8x256 .f32) : lutbOf x0 x1 = View.canon (List.ofFn fun p : Fin 2 => lutbPiece x0 (cbOf x1) ⟨1 - p.val, by omega⟩) := rfl
/-- The scales as a result, from their pieces. -/
theorem lutsOf_def (x0 : Vec F S2x96 .bf16) (x1 : Vec F S12x8x256 .f32) : lutsOf x0 x1 = View.canon (List.ofFn fun p : Fin 2 => lutsPiece x0 (cbOf x1) ⟨1 - p.val, by omega⟩) := rfl

/-- What the chunks leave in the two distance blocks. -/
def intOf (x2 : Vec F S12x65536 .i8) (T : Vec F S12x8x128 .i32) : Vec F S2x65536 .i32 :=
  View.canon (List.ofFn fun p : Fin 128 => intPiece (rowOf T) (k0_pay174 x2) ⟨1 - p.val % 2, by omega⟩ ⟨63 - p.val / 2, by omega⟩)
def distOf (x2 : Vec F S12x65536 .i8) (T : Vec F S12x8x128 .i32) (S : Vec F S4x8x128 .f32) : Vec F S2x65536 .bf16 :=
  View.canon (List.ofFn fun p : Fin 64 => distPiece (rowOf T) (srowOf S) (k0_pay174 x2) ⟨63 - p.val, by omega⟩)

end Cert.KernelIdeal.Adc

end
-- ==== Proof.Body.lean ====
module

public import proofs.«01_k».proof.Proof.Pieces
public import proofs.«01_k».proof.Proof.TablePieces
public import proofs.«01_k».proof.Proof.Contents

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first stretch away from point 0: three loads. -/
theorem restFirst (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : ¬ k0_cond1 i = 1#1) (x2 : Vec F S12x65536 .i8) (T : Vec F S12x8x128 .i32) (S : Vec F S4x8x128 .f32) (E : Set ℕ) (K : _ → sProp 𝕄) :
    iprop(iprop(owns (c : Thread nD τ) arg3 fullShare x2 ∗ owns (c : Thread nD τ) arg9 fullShare T ∗ owns (c : Thread nD τ) arg10 fullShare S)
        ∗ (iprop(owns (c : Thread nD τ) arg3 fullShare x2 ∗ owns (c : Thread nD τ) arg9 fullShare T ∗ owns (c : Thread nD τ) arg10 fullShare S) -∗ K (firstVals arg3 harg3 x2 T)))
      ⊢ wp frame (wpE (defs₀ (F := F)) Variants.none c none) E (k0_part26 i arg1 harg1 arg2 harg2 arg3 harg3 arg4 harg4 arg5 harg5 arg6 harg6 arg7 harg7 arg8 harg8 arg9 harg9 arg10 harg10) K := by
  have e0 : rowLoad0 T = View.readAt (Elt F) arg9.view (Rect.unit (s := S12x8x128) ![0, 0, 0] S1x8x128.size inb_S12x8x128_S1x8x128_0_0_0).toLoadRect (harg9.unread T) :=
    by rw [readAt_whole]; rfl
  have e1 : rowLoad1 T = View.readAt (Elt F) arg9.view (Rect.unit (s := S12x8x128) ![1, 0, 0] S1x8x128.size inb_S12x8x128_S1x8x128_1_0_0).toLoadRect (harg9.unread T) :=
    by rw [readAt_whole]; rfl
  simp only [firstVals, codesLoad, e0, e1]
  simp only [k0_part26_eq_skeleton]; unfold k0_part26_skel
  unfold owns
  iintro ⟨⟨⟨%f2, %hf2, H3⟩, ⟨%f9, %hf9, H9⟩, ⟨%f10, %hf10, H10⟩⟩, Hk⟩
  obtain rfl := harg3.eq_unread hf2; obtain rfl := harg9.eq_unread hf9; obtain rfl := harg10.eq_unread hf10
  sl_exec (disch := first | sl_exact hc0)
  sl_step
  iapply Hk
  isplitl [H3]
  · iexists _; isplitr; · ipureintro; exact harg3.read_unread _
    iexact H3
  isplitl [H9]
  · iexists _; isplitr; · ipureintro; exact harg9.read_unread _
    iexact H9
  iexists _; isplitr; · ipureintro; exact harg10.read_unread _
  iexact H10

/-- The body, given its first stretch. -/
theorem bodyRun (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (x2 : Vec F S12x65536 .i8) (T : Vec F S12x8x128 .i32) (S : Vec F S4x8x128 .f32) (E : Set ℕ) (K : PUnit → sProp 𝕄) (P R : sProp 𝕄)
    (hfirst : ∀ K', iprop(P ∗ (iprop(R ∗ owns (c : Thread nD τ) arg9 fullShare T ∗ owns (c : Thread nD τ) arg10 fullShare S) -∗ K' (firstVals arg3 harg3 x2 T)))
      ⊢ wp frame (wpE (defs₀ (F := F)) Variants.none c none) E (k0_part26 i arg1 harg1 arg2 harg2 arg3 harg3 arg4 harg4 arg5 harg5 arg6 harg6 arg7 harg7 arg8 harg8 arg9 harg9 arg10 harg10) K') :
    iprop(P ∗ (∃ d, owns (c : Thread nD τ) arg4 fullShare d) ∗ (∃ d, owns (c : Thread nD τ) arg5 fullShare d)
        ∗ (iprop(R ∗ owns (c : Thread nD τ) arg4 fullShare (distOf x2 T S) ∗ owns (c : Thread nD τ) arg5 fullShare (intOf x2 T) ∗ owns (c : Thread nD τ) arg9 fullShare T ∗ owns (c : Thread nD τ) arg10 fullShare S) -∗ K ⟨⟩))
      ⊢ wp frame (wpE (defs₀ (F := F)) Variants.none c none) E (cc0_adc i arg1 harg1 arg2 harg2 arg3 harg3 arg4 harg4 arg5 harg5 arg6 harg6 arg7 harg7 arg8 harg8 arg9 harg9 arg10 harg10) K := by
  have h := (mainRun c i arg1 harg1 arg2 harg2 arg3 harg3 arg4 harg4 arg5 harg5 arg6 harg6 arg7 harg7 arg8 harg8 arg9 harg9 arg10 harg10
      (k0_pay174 x2) (k0_pay176 x2) (k0_pay177 x2) (k0_pay178 x2 (tabRow arg9 harg9 T 0) (tabRow arg9 harg9 T 1))
      (k0_pay179 x2 (tabRow arg9 harg9 T 0) (tabRow arg9 harg9 T 1)) k0_pay180 T S).2.2 E K P R
  rw [mainRun_int, mainRun_dist, tabRow_eq, sbRow_eq] at h
  refine h ?_
  intro K'
  have h' := hfirst K'
  simp only [firstVals, codesLoad_eq, rowLoad0_eq arg9 harg9, rowLoad1_eq arg9 harg9, tabRow_eq] at h'
  exact h'

/-- The body away from point 0: the table and the scales are as the build left them. -/
theorem bodyRest (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : ¬ k0_cond1 i = 1#1) (x2 : Vec F S12x65536 .i8) (T : Vec F S12x8x128 .i32) (S : Vec F S4x8x128 .f32) (E : Set ℕ) (K : PUnit → sProp 𝕄) :
    iprop(iprop(owns (c : Thread nD τ) arg3 fullShare x2 ∗ owns (c : Thread nD τ) arg9 fullShare T ∗ owns (c : Thread nD τ) arg10 fullShare S) ∗ (∃ d, owns (c : Thread nD τ) arg4 fullShare d) ∗ (∃ d, owns (c : Thread nD τ) arg5 fullShare d)
        ∗ (iprop(owns (c : Thread nD τ) arg3 fullShare x2 ∗ owns (c : Thread nD τ) arg4 fullShare (distOf x2 T S) ∗ owns (c : Thread nD τ) arg5 fullShare (intOf x2 T) ∗ owns (c : Thread nD τ) arg9 fullShare T ∗ owns (c : Thread nD τ) arg10 fullShare S) -∗ K ⟨⟩))
      ⊢ wp frame (wpE (defs₀ (F := F)) Variants.none c none) E (cc0_adc i arg1 harg1 arg2 harg2 arg3 harg3 arg4 harg4 arg5 harg5 arg6 harg6 arg7 harg7 arg8 harg8 arg9 harg9 arg10 harg10) K :=
  bodyRun c i arg1 harg1 arg2 harg2 arg3 harg3 arg4 harg4 arg5 harg5 arg6 harg6 arg7 harg7 arg8 harg8 arg9 harg9 arg10 harg10 x2 T S E K _ _ (fun K' => restFirst c i arg1 harg1 arg2 harg2 arg3 harg3 arg4 harg4 arg5 harg5 arg6 harg6 arg7 harg7 arg8 harg8 arg9 harg9 arg10 harg10 hc0 x2 T S E K')

/-- The body at point 0: it builds the tables, then runs as at the other points. -/
theorem bodyFirst (c : Dev nD) (i : grid0.Coords)
    (arg1 : Memref sig .tc .vmem S2x96 .bf16) (harg1 : arg1.IsWhole) (arg2 : Memref sig .tc .vmem S12x8x256 .f32) (harg2 : arg2.IsWhole)
    (arg3 : Memref sig .tc .vmem S12x65536 .i8) (harg3 : arg3.IsWhole) (arg4 : Memref sig .tc .vmem S2x65536 .bf16) (harg4 : arg4.IsWhole)
    (arg5 : Memref sig .tc .vmem S2x65536 .i32) (harg5 : arg5.IsWhole) (arg6 : Memref sig .tc .vmem S2x12x256 .i8) (harg6 : arg6.IsWhole)
    (arg7 : Memref sig .tc .vmem S2x12 .f32) (harg7 : arg7.IsWhole) (arg8 : Memref sig .tc .vmem S1x2 .f32) (harg8 : arg8.IsWhole)
    (arg9 : Memref sig .tc .vmem S12x8x128 .i32) (harg9 : arg9.IsWhole) (arg10 : Memref sig .tc .vmem S4x8x128 .f32) (harg10 : arg10.IsWhole)
    (hc0 : k0_cond1 i = 1#1) (x0 : Vec F S2x96 .bf16) (x1 : Vec F S12x8x256 .f32) (x2 : Vec F S12x65536 .i8) (E : Set ℕ) (K : PUnit → sProp 𝕄) :
    iprop(iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))
        ∗ (∃ d, owns (c : Thread nD τ) arg4 fullShare d) ∗ (∃ d, owns (c : Thread nD τ) arg5 fullShare d)
        ∗ (iprop(iprop(iprop(owns (c : Thread nD τ) arg1 fullShare x0 ∗ owns (c : Thread nD τ) arg2 fullShare x1 ∗ owns (c : Thread nD τ) arg6 fullShare (lutcOf x0 x1) ∗ owns (c : Thread nD τ) arg7 fullShare (lutbOf x0 x1) ∗ owns (c : Thread nD τ) arg8 fullShare (lutsOf x0 x1)) ∗ owns (c : Thread nD τ) arg3 fullShare x2)
            ∗ owns (c : Thread nD τ) arg4 fullShare (distOf x2 (tabOf x0 x1) (sbOf x0 x1)) ∗ owns (c : Thread nD τ) arg5 fullShare (intOf x2 (tabOf x0 x1)) ∗ owns (c : Thread nD τ) arg9 fullShare (tabOf x0 x1) ∗ owns (c : Thread nD τ) arg10 fullShare (sbOf x0 x1)) -∗ K ⟨⟩))
      ⊢ wp frame (wpE (defs₀ (F := F)) Variants.none c none) E (cc0_adc i arg1 harg1 arg2 harg2 arg3 harg3 arg4 harg4 arg5 harg5 arg6 harg6 arg7 harg7 arg8 harg8 arg9 harg9 arg10 harg10) K := by
  refine bodyRun c i arg1 harg1 arg2 harg2 arg3 harg3 arg4 harg4 arg5 harg5 arg6 harg6 arg7 harg7 arg8 harg8 arg9 harg9 arg10 harg10 x2 (tabOf x0 x1) (sbOf x0 x1) E K _ _ (fun K' => ?_)
  have h := (buildRun c i arg1 harg1 arg2 harg2 arg3 harg3 arg4 harg4 arg5 harg5 arg6 harg6 arg7 harg7 arg8 harg8 arg9 harg9 arg10 harg10 hc0 x0 x1 x2).2.2.2.2.2 E K'
  rw [buildRun_sb, buildRun_tab, buildRun_luts, buildRun_lutb, buildRun_lutc, xLoad_eq, cbRow_eq] at h
  rw [← tabOf_def, ← sbOf_def, ← lutcOf_def, ← lutbOf_def, ← lutsOf_def] at h
  iintro ⟨HP, Hk⟩
  iapply h
  isplitl [HP]; · iexact HP
  iintro ⟨HR, H3, H9, H10⟩
  iapply Hk
  isplitl [HR H3]
  · isplitl [HR]; · iexact HR
    iexact H3
  isplitl [H9]; · iexact H9
  iexact H10

end Cert.KernelIdeal.Adc

end
-- ==== Proof.Launch.lean ====
module

public import proofs.«01_k».proof.Proof.Body
public import Idealize.ShloMosaic.Lib.Pipeline.TableIdle
public import Idealize.ShloMosaic.Lib.Claim

@[expose] public section

set_option maxRecDepth 16384

noncomputable section

namespace Cert.KernelIdeal.Adc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables are built at the first point only. -/
theorem first_iff : ∀ t : Fin cfg0.N, k0_cond1 (grid0.coords t) = 1#1 ↔ t.val = 0 :=
  (fun t => by
    have ht : t.val < 64 := Nat.lt_of_lt_of_eq t.isLt N_0
    have e0 : (grid0.coords t 0).val = t.val / 1 % 64 := Pipeline.Grid.coords_val t 0 (by decide) rfl
    simp only [k0_cond1, e0]
    word_cmp
   : ∀ t : Fin grid0.N, k0_cond1 (grid0.coords t) = 1#1 ↔ t.val = 0)

/-! Each window's current buffer, and the scratch buffers. -/
abbrev ms0 (t : Fin cfg0.N) : Memref sig .tc .vmem S2x96 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S12x8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S12x65536 .i8 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x65536 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x65536 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x12x256 .i8 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x12 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2 .f32 := win0_7.stage (cfg0.slots t 7)
abbrev hs7 (t : Fin cfg0.N) : (ms7 t).IsWhole := hstage0_7 ((cfg0.slots t 7).cast nbuf0_7)
abbrev scr0 : Memref sig .tc .vmem S12x8x128 .i32 := Memref.whole cc0_scratch0
abbrev scr1 : Memref sig .tc .vmem S4x8x128 .f32 := Memref.whole cc0_scratch1

/-- The invariant between points holds the two scratch buffers. -/
theorem PhiA_scr (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The grid's first point. -/
def pt0 : Fin cfg0.N := ⟨0, Nat.lt_of_lt_of_eq (by decide) N_0.symm⟩

/-- The queries and the transposed codebooks as the region finds them, and the table and scales built of them. -/
def X0 (c : Dev nD) : Vec F S2x96 .bf16 := iblk m c 0 pt0
def X1 (c : Dev nD) : Vec F S12x8x256 .f32 := iblk m c 1 pt0
def TT (c : Dev nD) : Vec F S12x8x128 .i32 := tabOf (X0 m c) (X1 m c)
def SS (c : Dev nD) : Vec F S4x8x128 .f32 := sbOf (X0 m c) (X1 m c)

/-- The invariant before point `n`: anything in the scratch buffers at first, then the table and the scales. -/
def inv (c : Dev nD) (n : ℕ) : sProp 𝕄 :=
  match n with
  | 0 => Pipeline.ΦA spec0 c
  | _ + 1 => iprop(iprop(owns (c : Thread nD τ) scr0 fullShare (TT m c) ∗ owns (c : Thread nD τ) scr1 fullShare (SS m c)) ∗ (∃ r, prngReg c r))

/-- The proof data: what each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => distOf (iblk m c 2 t) (TT m c) (SS m c)
    | ⟨4, _⟩ => intOf (iblk m c 2 t) (TT m c)
    | ⟨5, _⟩ => lutcOf (X0 m c) (X1 m c)
    | ⟨6, _⟩ => lutbOf (X0 m c) (X1 m c)
    | ⟨7, _⟩ => lutsOf (X0 m c) (X1 m c)
  Φ t := inv m c t.val
  q _ := fullShare
  owed _ := 0

/-- Each window starts from its array. -/
theorem A_eq (c : Dev nD) (w : Fin cfg0.W) : (dats m 0 c).A w = V m c (Pipeline.arrRef spec0 w) := by
  dsimp only [dats]
/-- A point leaves the queries as they are. -/
theorem after0 (c : Dev nD) (t : Fin cfg0.N) : (dats m 0 c).after 0 t = iblk m c 0 t := by dsimp only [dats]
/-- A point leaves the codebooks as they are. -/
theorem after1 (c : Dev nD) (t : Fin cfg0.N) : (dats m 0 c).after 1 t = iblk m c 1 t := by dsimp only [dats]
/-- A point leaves the codes as they are. -/
theorem after2 (c : Dev nD) (t : Fin cfg0.N) : (dats m 0 c).after 2 t = iblk m c 2 t := by dsimp only [dats]
/-- What a point leaves in its block of distances. -/
theorem after3 (c : Dev nD) (t : Fin cfg0.N) : (dats m 0 c).after 3 t = distOf (iblk m c 2 t) (TT m c) (SS m c) := by dsimp only [dats]
/-- What a point leaves in its block of integer distances. -/
theorem after4 (c : Dev nD) (t : Fin cfg0.N) : (dats m 0 c).after 4 t = intOf (iblk m c 2 t) (TT m c) := by dsimp only [dats]
/-- What a point leaves in the codes of the table. -/
theorem after5 (c : Dev nD) (t : Fin cfg0.N) : (dats m 0 c).after 5 t = lutcOf (X0 m c) (X1 m c) := by dsimp only [dats]
/-- What a point leaves in the least distances. -/
theorem after6 (c : Dev nD) (t : Fin cfg0.N) : (dats m 0 c).after 6 t = lutbOf (X0 m c) (X1 m c) := by dsimp only [dats]
/-- What a point leaves in the scales. -/
theorem after7 (c : Dev nD) (t : Fin cfg0.N) : (dats m 0 c).after 7 t = lutsOf (X0 m c) (X1 m c) := by dsimp only [dats]
/-- A point finds the queries in its window. -/
theorem before0 (c : Dev nD) (t : Fin cfg0.N) (d) : (dats m 0 c).before 0 t d = iblk m c 0 t :=
  before0_0_of m (dats m 0 c) (A_eq m c 0) (after0 m c) t d
/-- A point finds the codebooks in its window. -/
theorem before1 (c : Dev nD) (t : Fin cfg0.N) (d) : (dats m 0 c).before 1 t d = iblk m c 1 t :=
  before0_1_of m (dats m 0 c) (A_eq m c 1) (after1 m c) t d
/-- A point finds its block of codes in its window. -/
theorem before2 (c : Dev nD) (t : Fin cfg0.N) (d) : (dats m 0 c).before 2 t d = iblk m c 2 t :=
  before0_2_of m (dats m 0 c) (A_eq m c 2) (after2 m c) t d

/-- Windows 5, 6 and 7 are idle everywhere but at the first point. -/
theorem idle_iff (w : Fin cfg0.W) (h : ∀ t : Fin cfg0.N, cfg0.idle w (grid0.coords t) = !(k0_cond1 (grid0.coords t) == 1#1)) (t : Fin cfg0.N) :
    cfg0.idle w (grid0.coords t) = !(t.val == 0) := by
  rw [h]; congr 1
  rw [Bool.eq_iff_iff, beq_iff_eq, beq_iff_eq]; exact first_iff t

/-- Such a window's buffer is fresh at the first point only. -/
theorem fresh_eq (w : Fin cfg0.W) (h : ∀ t : Fin cfg0.N, cfg0.idle w (grid0.coords t) = !(k0_cond1 (grid0.coords t) == 1#1))
    (hf : ∀ t : Fin cfg0.N, (cfg0.win w).flush t = true ↔ t.val % 64 = 63) :
    ∀ n, n < 64 → cfg0.fresh w n = (n == 0)
  | 0, _ => rfl
  | n + 1, hn => by
      have hN : n < cfg0.N := Nat.lt_of_lt_of_eq (by omega) N_0.symm
      rw [cfg0.fresh_succ w n hN, fresh_eq w h hf n (by omega)]
      have e1 : (cfg0.win w).flush ⟨n, hN⟩ = false := by
        rw [Bool.eq_false_iff]; intro e; have := (hf _).mp e; simp only at this; omega
      rw [e1, show cfg0.idle w (cfg0.grid.coords ⟨n, hN⟩) = !((⟨n, hN⟩ : Fin cfg0.N).val == 0) from idle_iff w h ⟨n, hN⟩]
      rcases n with _ | n <;> rfl

/-- A later point finds the codes of the table that the first one left. -/
theorem before5 (c : Dev nD) (t : Fin cfg0.N) (h0 : t.val ≠ 0) (d) : (dats m 0 c).before 5 t d = lutcOf (X0 m c) (X1 m c) := by
  have ht : t.val < 64 := Nat.lt_of_lt_of_eq t.isLt N_0
  rw [(dats m 0 c).before_out_traj 5 rfl (fun _ _ => rfl) (fun t _ _ _ => by rw [after5, after5]) t.val t rfl d,
    fresh_eq 5 (fun _ => rfl) flush0_5 t.val ht, after5, if_neg (by simpa using h0)]

/-- Window 5's buffer, at what the build left there, is what the obligation asks at every point. -/
theorem leaves5 (c : Dev nD) (t : Fin cfg0.N) :
    owns (c : Thread nD τ) (ms5 t) fullShare (lutcOf (X0 m c) (X1 m c)) ⊢ (dats m 0 c).leavesExact 5 t := by
  by_cases h0 : t.val = 0
  · have hi : cfg0.idle 5 (cfg0.grid.coords t) = false := by
      rw [show cfg0.idle 5 (cfg0.grid.coords t) = !(t.val == 0) from idle_iff 5 (fun _ => rfl) t]; simp [h0]
    unfold Dat.leavesExact; rw [hi, after5]
  · have hi : cfg0.idle 5 (cfg0.grid.coords t) = true := by
      rw [show cfg0.idle 5 (cfg0.grid.coords t) = !(t.val == 0) from idle_iff 5 (fun _ => rfl) t]; simp [h0]
    cases hf : (cfg0.win 5).flush t
    · rw [(dats m 0 c).leavesExact_idle 5 t hi hf]
      iintro H; iexists (lutcOf (X0 m c) (X1 m c)); rw [before5 m c t h0]; iexact H
    · unfold Dat.leavesExact; rw [hi, hf, after5]

/-- A later point finds the least distances that the first one left. -/
theorem before6 (c : Dev nD) (t : Fin cfg0.N) (h0 : t.val ≠ 0) (d) : (dats m 0 c).before 6 t d = lutbOf (X0 m c) (X1 m c) := by
  have ht : t.val < 64 := Nat.lt_of_lt_of_eq t.isLt N_0
  rw [(dats m 0 c).before_out_traj 6 rfl (fun _ _ => rfl) (fun t _ _ _ => by rw [after6, after6]) t.val t rfl d,
    fresh_eq 6 (fun _ => rfl) flush0_6 t.val ht, after6, if_neg (by simpa using h0)]

/-- Window 6's buffer, at what the build left there, is what the obligation asks at every point. -/
theorem leaves6 (c : Dev nD) (t : Fin cfg0.N) :
    owns (c : Thread nD τ) (ms6 t) fullShare (lutbOf (X0 m c) (X1 m c)) ⊢ (dats m 0 c).leavesExact 6 t := by
  by_cases h0 : t.val = 0
  · have hi : cfg0.idle 6 (cfg0.grid.coords t) = false := by
      rw [show cfg0.idle 6 (cfg0.grid.coords t) = !(t.val == 0) from idle_iff 6 (fun _ => rfl) t]; simp [h0]
    unfold Dat.leavesExact; rw [hi, after6]
  · have hi : cfg0.idle 6 (cfg0.grid.coords t) = true := by
      rw [show cfg0.idle 6 (cfg0.grid.coords t) = !(t.val == 0) from idle_iff 6 (fun _ => rfl) t]; simp [h0]
    cases hf : (cfg0.win 6).flush t
    · rw [(dats m 0 c).leavesExact_idle 6 t hi hf]
      iintro H; iexists (lutbOf (X0 m c) (X1 m c)); rw [before6 m c t h0]; iexact H
    · unfold Dat.leavesExact; rw [hi, hf, after6]

/-- A later point finds the scales that the first one left. -/
theorem before7 (c : Dev nD) (t : Fin cfg0.N) (h0 : t.val ≠ 0) (d) : (dats m 0 c).before 7 t d = lutsOf (X0 m c) (X1 m c) := by
  have ht : t.val < 64 := Nat.lt_of_lt_of_eq t.isLt N_0
  rw [(dats m 0 c).before_out_traj 7 rfl (fun _ _ => rfl) (fun t _ _ _ => by rw [after7, after7]) t.val t rfl d,
    fresh_eq 7 (fun _ => rfl) flush0_7 t.val ht, after7, if_neg (by simpa using h0)]

/-- Window 7's buffer, at what the build left there, is what the obligation asks at every point. -/
theorem leaves7 (c : Dev nD) (t : Fin cfg0.N) :
    owns (c : Thread nD τ) (ms7 t) fullShare (lutsOf (X0 m c) (X1 m c)) ⊢ (dats m 0 c).leavesExact 7 t := by
  by_cases h0 : t.val = 0
  · have hi : cfg0.idle 7 (cfg0.grid.coords t) = false := by
      rw [show cfg0.idle 7 (cfg0.grid.coords t) = !(t.val == 0) from idle_iff 7 (fun _ => rfl) t]; simp [h0]
    unfold Dat.leavesExact; rw [hi, after7]
  · have hi : cfg0.idle 7 (cfg0.grid.coords t) = true := by
      rw [show cfg0.idle 7 (cfg0.grid.coords t) = !(t.val == 0) from idle_iff 7 (fun _ => rfl) t]; simp [h0]
    cases hf : (cfg0.win 7).flush t
    · rw [(dats m 0 c).leavesExact_idle 7 t hi hf]
      iintro H; iexists (lutsOf (X0 m c) (X1 m c)); rw [before7 m c t h0]; iexact H
    · unfold Dat.leavesExact; rw [hi, hf, after7]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = iprop(iprop(owns (c : Thread nD τ) scr0 fullShare (TT m c) ∗ owns (c : Thread nD τ) scr1 fullShare (SS m c)) ∗ (∃ r, prngReg c r)) from rfl,
    show (dats m 0 c).Φ t.castSucc = inv m c t.val from rfl]
  simp only [before0, before1, before2]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).leavesExact 2 t = owns (c : Thread nD τ) (ms2 t) fullShare (iblk m c 2 t) from by
    unfold Dat.leavesExact; rw [show cfg0.idle 2 (cfg0.grid.coords t) = false from rfl, after2]]
  rw [show (dats m 0 c).leavesExact 3 t = owns (c : Thread nD τ) (ms3 t) fullShare (distOf (iblk m c 2 t) (TT m c) (SS m c)) from by
    unfold Dat.leavesExact; rw [show cfg0.idle 3 (cfg0.grid.coords t) = false from rfl, after3]]
  rw [show (dats m 0 c).leavesExact 4 t = owns (c : Thread nD τ) (ms4 t) fullShare (intOf (iblk m c 2 t) (TT m c)) from by
    unfold Dat.leavesExact; rw [show cfg0.idle 4 (cfg0.grid.coords t) = false from rfl, after4]]
  by_cases h0 : t.val = 0
  · obtain rfl : t = pt0 := Fin.ext h0
    rw [show inv m c (pt0 : Fin cfg0.N).val = Pipeline.ΦA spec0 c from rfl, PhiA_scr]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyFirst c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) scr0 (Memref.isWhole_whole _) scr1 (Memref.isWhole_whole _) ((first_iff pt0).mpr rfl) (iblk m c 0 pt0) (iblk m c 1 pt0) (iblk m c 2 pt0) Set.univ _)
    isplitl [H0 H1 H2 H5 H6 H7 HS0 HS1]
    · isplitl [H0]; · iexact H0
      isplitl [H1]; · iexact H1
      isplitl [H2]; · iexact H2
      isplitl [H5]; · iexists _; iexact H5
      isplitl [H6]; · iexists _; iexact H6
      isplitl [H7]; · iexists _; iexact H7
      isplitl [HS0]; · iexact HS0
      iexact HS1
    isplitl [H3]; · iexists _; iexact H3
    isplitl [H4]; · iexists _; iexact H4
    iintro ⟨⟨⟨H0, H1, H5, H6, H7⟩, H2⟩, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c pt0); iexact H5
    isplitl [H6]; · iapply (leaves6 m c pt0); iexact H6
    iapply (leaves7 m c pt0); iexact H7
  · obtain ⟨n, hn⟩ := Nat.exists_eq_succ_of_ne_zero h0
    rw [hn, show inv m c (Nat.succ n) = iprop(iprop(owns (c : Thread nD τ) scr0 fullShare (TT m c) ∗ owns (c : Thread nD τ) scr1 fullShare (SS m c)) ∗ (∃ r, prngReg c r)) from rfl]
    simp only [before5 m c t h0, before6 m c t h0, before7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyRest c (grid0.coords t) (ms0 t) (hs0 t) (ms1 t) (hs1 t) (ms2 t) (hs2 t) (ms3 t) (hs3 t) (ms4 t) (hs4 t) (ms5 t) (hs5 t) (ms6 t) (hs6 t) (ms7 t) (hs7 t) scr0 (Memref.isWhole_whole _) scr1 (Memref.isWhole_whole _) (fun h => h0 ((first_iff t).mp h)) (iblk m c 2 t) (TT m c) (SS m c) Set.univ _)
    isplitl [H2 HS0 HS1]
    · isplitl [H2]; · iexact H2
      isplitl [HS0]; · iexact HS0
      iexact HS1
    isplitl [H3]; · iexists _; iexact H3
    isplitl [H4]; · iexists _; iexact H4
    iintro ⟨H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t); iexact H5
    isplitl [H6]; · iapply (leaves6 m c t); iexact H6
    iapply (leaves7 m c t); iexact H7

/-- The body called at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each window's array at what the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl)
    (hout := fun c => by
      rw [show (dats m 0 c).Φ (Fin.last cfg0.N) = inv m c cfg0.N from rfl, show cfg0.N = 63 + 1 from N_0, PhiA_scr]
      unfold inv
      iintro ⟨⟨H0, H1⟩, Hg⟩
      isplitl [H0 H1]
      · isplitl [H0]; · iexists _; iexact H0
        iexists _; iexact H1
      iexact Hg)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Adc

end
-- ==== Proof.SafeRuns.lean ====
module

public import proofs.«01_k».proof.Proof.Gen.Kernel.Frame
public import proofs.«01_k».proof.Proof.Gen.Kernel.Skeleton
public import Idealize.ShloMosaic.Lib.Claim

@[expose] public section

-- membership in a rectangle of production extents (`View.cover_of_tiled`): the elaborator's structural look
-- recurses once per coordinate of the long axes
set_option maxRecDepth 16384

noncomputable section

namespace Cert.Kernel.Safe

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x96 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12x65536 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x65536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x65536 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x12x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x12 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S12x8x128 .i32 := Memref.whole cc0_scratch0
abbrev scM0_1 : Memref sig .tc .vmem S4x8x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Safe

end
-- ==== Proof.SafeRunA.lean ====
module

public import proofs.«01_k».proof.Proof.SafeRuns

@[expose] public section

-- membership in a rectangle of production extents (`View.cover_of_tiled`): the elaborator's structural look
-- recurses once per coordinate of the long axes
set_option maxRecDepth 16384

noncomputable section

namespace Cert.Kernel.Safe

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 9600000 in
/-- The body's triple IN CASE A (`scf.if` 0 taken: points 0): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S2x96 .bf16) (harg1 : arg1.IsWhole) (arg2 : Memref sig .tc .vmem S12x8x256 .f32) (harg2 : arg2.IsWhole) (arg3 : Memref sig .tc .vmem S12x65536 .i8) (harg3 : arg3.IsWhole) (arg4 : Memref sig .tc .vmem S2x65536 .bf16) (harg4 : arg4.IsWhole) (arg5 : Memref sig .tc .vmem S2x65536 .i32) (harg5 : arg5.IsWhole) (arg6 : Memref sig .tc .vmem S2x12x256 .i8) (harg6 : arg6.IsWhole) (arg7 : Memref sig .tc .vmem S2x12 .f32) (harg7 : arg7.IsWhole) (arg8 : Memref sig .tc .vmem S1x2 .f32) (harg8 : arg8.IsWhole) (arg9 : Memref sig .tc .vmem S12x8x128 .i32) (harg9 : arg9.IsWhole) (arg10 : Memref sig .tc .vmem S4x8x128 .f32) (harg10 : arg10.IsWhole) (hc0 : cond0_0 i)
    (x0 : Vec F S2x96 .bf16) (x1 : Vec F S12x8x256 .f32) (x2 : Vec F S12x65536 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_adc i arg1 harg1 arg2 harg2 arg3 harg3 arg4 harg4 arg5 harg5 arg6 harg6 arg7 harg7 arg8 harg8 arg9 harg9 arg10 harg10) K := by
    intro E K
    simp only [cc0_adc_eq_skeleton]; unfold cc0_adc_skel
    simp only [k0_part383_eq_skeleton, k0_part26_eq_skeleton, k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part384_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part385_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part386_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part387_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part388_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Safe

end
-- ==== Proof.SafeRunB.lean ====
module

public import proofs.«01_k».proof.Proof.SafeRuns

@[expose] public section

-- membership in a rectangle of production extents (`View.cover_of_tiled`): the elaborator's structural look
-- recurses once per coordinate of the long axes
set_option maxRecDepth 16384

noncomputable section

namespace Cert.Kernel.Safe

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8824000 in
/-- The body's triple IN CASE B (`scf.if` 0 not taken: points 1, 2, … 63: 63 of 64): on whole staging memrefs — the inputs' at their contents,
    the FORGOTTEN outputs' (3, 4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S2x96 .bf16) (harg1 : arg1.IsWhole) (arg2 : Memref sig .tc .vmem S12x8x256 .f32) (harg2 : arg2.IsWhole) (arg3 : Memref sig .tc .vmem S12x65536 .i8) (harg3 : arg3.IsWhole) (arg4 : Memref sig .tc .vmem S2x65536 .bf16) (harg4 : arg4.IsWhole) (arg5 : Memref sig .tc .vmem S2x65536 .i32) (harg5 : arg5.IsWhole) (arg6 : Memref sig .tc .vmem S2x12x256 .i8) (harg6 : arg6.IsWhole) (arg7 : Memref sig .tc .vmem S2x12 .f32) (harg7 : arg7.IsWhole) (arg8 : Memref sig .tc .vmem S1x2 .f32) (harg8 : arg8.IsWhole) (arg9 : Memref sig .tc .vmem S12x8x128 .i32) (harg9 : arg9.IsWhole) (arg10 : Memref sig .tc .vmem S4x8x128 .f32) (harg10 : arg10.IsWhole) (hc0 : ¬cond0_0 i)
    (x0 : Vec F S2x96 .bf16) (x1 : Vec F S12x8x256 .f32) (x2 : Vec F S12x65536 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_adc i arg1 harg1 arg2 harg2 arg3 harg3 arg4 harg4 arg5 harg5 arg6 harg6 arg7 harg7 arg8 harg8 arg9 harg9 arg10 harg10) K := by
    intro E K
    simp only [cc0_adc_eq_skeleton]; unfold cc0_adc_skel
    simp only [k0_part383_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part384_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part385_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part386_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part387_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part388_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

end Cert.Kernel.Safe

end
-- ==== Proof.SafeFrame.lean ====
module

public import proofs.«01_k».proof.Proof.SafeRunA
public import proofs.«01_k».proof.Proof.SafeRunB
public import Idealize.ShloMosaic.Lib.Claim

@[expose] public section

-- membership in a rectangle of production extents (`View.cover_of_tiled`): the elaborator's structural look
-- recurses once per coordinate of the long axes
set_option maxRecDepth 16384

noncomputable section

namespace Cert.Kernel.Safe

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7): nothing reads what the kernel leaves in them, so nothing
    of it is named (Pipeline/Dat.lean `Dat.toRForget`). -/
def forgets0 : Fin 8 → Bool := fun w => w.val == 3 || w.val == 4 || w.val == 5 || w.val == 6 || w.val == 7

/-- The proof data of the one pipeline on core `c`: the arrays as the region finds them (`V`); after the body at
    point `t` each input's buffer at its block and the outputs, FORGOTTEN, at `Dat.unnamed`; the invariant the class's
    (Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- A point leaves the codebooks as they are. -/
theorem after0_1 (c : Dev nD) (t : Fin cfg0.N) : (dats m 0 c).after 1 t = iblk m c 1 t := by dsimp only [dats]
/-- A point leaves the codes as they are. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds the codebooks in its window. -/
theorem before0_1 (c : Dev nD) (t : Fin cfg0.N) (d) : (dats m 0 c).before 1 t d = iblk m c 1 t :=
  before0_1_of m (dats m 0 c) (A_eq m c 1) (after0_1 m c) t d
/-- A point finds its block of codes in its window. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 64 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7) (Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Safe

end
-- ==== Proof.Words.lean ====
module

public import proofs.«01_k».proof.Proof.Contents
public import Idealize.ShloMosaic.Lib.BitcastFour
public import Idealize.ShloMosaic.Lib.Pointwise

@[expose] public section

set_option maxRecDepth 16384

noncomputable section

namespace Cert.KernelIdeal.Adc

open Idealize.ShloMosaic hiding ix0 ix1 ix2 ix3 ix4
open Idealize.ShloMosaic.ValueIdx
open Cert.KernelIdeal Cert.KernelIdeal.Gen

/-- A word from its four bytes, the first the lowest. -/
def word4 (c : Fin 4 → BitVec 8) : BitVec 32 :=
  (c 0).setWidth 32 ||| ((c 1).setWidth 32 <<< 8) ||| ((c 2).setWidth 32 <<< 16) ||| ((c 3).setWidth 32 <<< 24)

/-- A bit of a word is a bit of one of its bytes. -/
theorem word4_bit (c : Fin 4 → BitVec 8) (q : ℕ) (hq : q < 32) :
    (word4 c).getLsbD q = (c ⟨q / 8, by omega⟩).getLsbD (q % 8) := four_bytes_getLsbD c q hq

/-- A word whose bits are the bits of four bytes is the word of the four bytes. -/
theorem eq_word4 (w : BitVec 32) (c : Fin 4 → BitVec 8)
    (h : ∀ q (hq : q < 32), w.getLsbD q = (c ⟨q / 8, by omega⟩).getLsbD (q % 8)) : w = word4 c :=
  BitVec.eq_of_getLsbD_eq fun q hq => (h q hq).trans (word4_bit c q hq).symm

/-- The number a word stands for, from its bytes. -/
theorem word4_toNat (c : Fin 4 → BitVec 8) :
    (word4 c).toNat = (c 0).toNat + 256 * (c 1).toNat + 65536 * (c 2).toNat + 16777216 * (c 3).toNat := by
  have h0 := (c 0).isLt; have h1 := (c 1).isLt; have h2 := (c 2).isLt; have h3 := (c 3).isLt
  have e : ∀ (a : BitVec 8) (n : ℕ), n ≤ 24 → (a.setWidth 32 <<< n).toNat = a.toNat * 2 ^ n := fun a n hn => by
    have ha := a.isLt
    have hp : 2 ^ n ≤ 2 ^ 24 := Nat.pow_le_pow_right (by decide) hn
    rw [BitVec.toNat_shiftLeft, BitVec.toNat_setWidth, Nat.shiftLeft_eq, Nat.mod_eq_of_lt (by omega : a.toNat < 2 ^ 32), Nat.mod_eq_of_lt]
    calc a.toNat * 2 ^ n ≤ 255 * 2 ^ 24 := Nat.mul_le_mul (by omega) hp
      _ < 2 ^ 32 := by decide
  have o : ∀ (a b n : ℕ), a < 2 ^ n → a ||| b * 2 ^ n = a + b * 2 ^ n := fun a b n h => by
    rw [Nat.or_comm, ← Nat.shiftLeft_eq, ← Nat.shiftLeft_add_eq_or_of_lt h, Nat.add_comm]
  unfold word4
  rw [BitVec.toNat_or, BitVec.toNat_or, BitVec.toNat_or, e _ 8 (by omega), e _ 16 (by omega), e _ 24 (by omega), BitVec.toNat_setWidth,
    Nat.mod_eq_of_lt (by omega : (c 0).toNat < 2 ^ 32), o _ _ 8 (by omega), o _ _ 16 (by omega), o _ _ 24 (by omega)]
  omega

/-- Neighbouring bytes of a word added, two sums in one word. -/
theorem pair_toNat (c : Fin 4 → BitVec 8) :
    ((word4 c &&& 16711935#32) + (((word4 c).sshiftRight 8) &&& 16711935#32)).toNat
      = ((c 0).toNat + (c 1).toNat) + 65536 * ((c 2).toNat + (c 3).toNat) := by
  have hm : ∀ q, q < 32 → (16711935#32 : BitVec 32).getLsbD q = decide (q / 8 % 2 = 0) := fun q hq => by
    interval_cases q <;> rfl
  have ea : word4 c &&& 16711935#32 = word4 ![c 0, 0#8, c 2, 0#8] := by
    refine eq_word4 _ _ fun q hq => ?_
    rw [BitVec.getLsbD_and, hm q hq, word4_bit c q hq]
    have : q / 8 = 0 ∨ q / 8 = 1 ∨ q / 8 = 2 ∨ q / 8 = 3 := by omega
    rcases this with h | h | h | h <;> simp [h]
  have eb : ((word4 c).sshiftRight 8) &&& 16711935#32 = word4 ![c 1, 0#8, c 3, 0#8] := by
    refine eq_word4 _ _ fun q hq => ?_
    rw [BitVec.getLsbD_and, hm q hq, BitVec.getLsbD_sshiftRight]
    have : q / 8 = 0 ∨ q / 8 = 1 ∨ q / 8 = 2 ∨ q / 8 = 3 := by omega
    rcases this with h | h | h | h
    · rw [if_pos (by omega), word4_bit c (8 + q) (by omega)]
      have h1 : (8 + q) / 8 = 1 := by omega
      have h2 : (8 + q) % 8 = q % 8 := by omega
      have h3 : ¬ 32 ≤ q := by omega
      simp [h, h1, h2, h3]
    · simp [h]
    · rw [if_pos (by omega), word4_bit c (8 + q) (by omega)]
      have h1 : (8 + q) / 8 = 3 := by omega
      have h2 : (8 + q) % 8 = q % 8 := by omega
      have h3 : ¬ 32 ≤ q := by omega
      simp [h, h1, h2, h3]
    · simp [h]
  have h0 := (c 0).isLt; have h1 := (c 1).isLt; have h2 := (c 2).isLt; have h3 := (c 3).isLt
  rw [ea, eb, BitVec.toNat_add, word4_toNat, word4_toNat]
  simp
  omega

/-- The two halves of a word below half a billion added. -/
theorem halves_toNat (a : BitVec 32) (h : a.toNat < 2 ^ 31) :
    ((a &&& 65535#32) + a.sshiftRight 16).toNat = a.toNat % 65536 + a.toNat / 65536 := by
  have hm : a.msb = false := by rw [BitVec.msb_eq_decide]; simp; omega
  have e1 : (a &&& 65535#32).toNat = a.toNat % 65536 := by
    rw [BitVec.toNat_and]; exact Nat.and_two_pow_sub_one_eq_mod a.toNat 16
  have e2 : (a.sshiftRight 16).toNat = a.toNat / 65536 := by
    rw [BitVec.sshiftRight_eq_of_msb_false hm, BitVec.toNat_ushiftRight, Nat.shiftRight_eq_div_pow]
  rw [BitVec.toNat_add, e1, e2]
  omega

/-- The top bit of each byte of a word spread over the whole byte. -/
theorem high_bit (w : BitVec 32) (q : ℕ) (hq : q < 32) :
    ((w.sshiftRight 7 &&& 16843009#32) * 255#32).getLsbD q = w.getLsbD (8 * (q / 8) + 7) := by
  have hm : ∀ q, q < 32 → (16843009#32 : BitVec 32).getLsbD q = decide (q % 8 = 0) := fun q hq => by
    interval_cases q <;> rfl
  have ea : w.sshiftRight 7 &&& 16843009#32 = word4 fun i => if w.getLsbD (8 * i.val + 7) then 1#8 else 0#8 := by
    refine eq_word4 _ _ fun q hq => ?_
    rw [BitVec.getLsbD_and, hm q hq, BitVec.getLsbD_sshiftRight]
    by_cases h : q % 8 = 0
    · have h3 : ¬ 32 ≤ q := by omega
      rw [if_pos (by omega), show 7 + q = 8 * (q / 8) + 7 by omega]
      simp only [h, h3]
      cases w.getLsbD (8 * (q / 8) + 7) <;> simp
    · have : q % 8 < 8 := Nat.mod_lt _ (by decide)
      have h1 : ∀ k, k < 8 → k ≠ 0 → (1#8 : BitVec 8).getLsbD k = false := fun k hk h0 => by interval_cases k <;> first | rfl | exact absurd rfl h0
      cases w.getLsbD (8 * (q / 8) + 7) <;> simp [h, h1 _ this h]
  have eb : (w.sshiftRight 7 &&& 16843009#32) * 255#32 = word4 fun i => if w.getLsbD (8 * i.val + 7) then 255#8 else 0#8 := by
    rw [ea]
    refine BitVec.eq_of_toNat_eq ?_
    rw [BitVec.toNat_mul, word4_toNat, word4_toNat]
    generalize w.getLsbD (8 * (0 : Fin 4).val + 7) = t0
    generalize w.getLsbD (8 * (1 : Fin 4).val + 7) = t1
    generalize w.getLsbD (8 * (2 : Fin 4).val + 7) = t2
    generalize w.getLsbD (8 * (3 : Fin 4).val + 7) = t3
    cases t0 <;> cases t1 <;> cases t2 <;> cases t3 <;> rfl
  rw [eb, word4_bit _ q hq]
  have h255 : ∀ k, k < 8 → (255#8 : BitVec 8).getLsbD k = true := fun k hk => by interval_cases k <;> rfl
  cases w.getLsbD (8 * (q / 8) + 7) <;> simp [h255 _ (Nat.mod_lt q (by decide : 0 < 8))]

/-- The low seven bits of each byte of a word. -/
theorem low7_bit (w : BitVec 32) (q : ℕ) (hq : q < 32) : (w &&& 2139062143#32).getLsbD q = (w.getLsbD q && decide (q % 8 < 7)) := by
  have hm : ∀ q, q < 32 → (2139062143#32 : BitVec 32).getLsbD q = decide (q % 8 < 7) := fun q hq => by
    interval_cases q <;> rfl
  rw [BitVec.getLsbD_and, hm q hq]

end Cert.KernelIdeal.Adc

end
-- ==== Proof.ChunkWords.lean ====
module

public import proofs.«01_k».proof.Proof.Words

@[expose] public section

set_option maxRecDepth 16384

noncomputable section

namespace Cert.KernelIdeal.Adc

open Idealize.ShloMosaic hiding ix0 ix1 ix2 ix3 ix4
open Idealize.ShloMosaic.ValueIdx
open Cert.KernelIdeal Cert.KernelIdeal.Gen

/-- Two words of bytes, bit by bit different. -/
theorem word4_xor (c d : Fin 4 → BitVec 8) : word4 c ^^^ word4 d = word4 fun i => c i ^^^ d i :=
  eq_word4 _ _ fun q hq => by rw [BitVec.getLsbD_xor, word4_bit c q hq, word4_bit d q hq, BitVec.getLsbD_xor]

/-- Two words of bytes, their common bits. -/
theorem word4_and (c d : Fin 4 → BitVec 8) : word4 c &&& word4 d = word4 fun i => c i &&& d i :=
  eq_word4 _ _ fun q hq => by rw [BitVec.getLsbD_and, word4_bit c q hq, word4_bit d q hq, BitVec.getLsbD_and]

/-- A word cut into its bytes. -/
theorem bytes_word4 (w : IVec S8x128 32) (c : Fin 4 → BitVec 8) (s : Fin 8) (l : Fin 128) (hw : w (ix2 s l) = word4 c)
    (i : Fin 4) (p : Fin 32) (hp : p.val = 4 * s.val + i.val) :
    bitcast S32x128 8 w bitcasts_S8x128_w32_S32x128_w8 (ix2 p l) = c i := by
  refine BitVec.eq_of_getLsbD_eq fun q hq => ?_
  rw [bitcast_getLsbD _ _ _ q hq (by decide)]
  have hr : S32x128.row (ix2 p l) = p.val := rfl
  have e1 : (S32x128.row (ix2 p l) * 8 + q) / 32 = s.val := by rw [hr]; omega
  have e2 : (S32x128.row (ix2 p l) * 8 + q) % 32 = 8 * i.val + q := by rw [hr]; omega
  have hi : bitcasts_S8x128_w32_S32x128_w8.srcIdx (ix2 p l) ((S32x128.row (ix2 p l) * 8 + q) / 32)
      (fun a ha => (Nat.div_lt_iff_lt_mul (by decide)).2 (bitcasts_S8x128_w32_S32x128_w8.pos_lt (ix2 p l) q hq a ha)) = ix2 s l := by
    funext a
    match a with
    | ⟨0, _⟩ => exact Fin.ext ((bitcasts_S8x128_w32_S32x128_w8.srcIdx_row _ _ _ ⟨0, Nat.zero_lt_two⟩ rfl).trans e1)
    | ⟨1, _⟩ => exact Fin.ext (bitcasts_S8x128_w32_S32x128_w8.srcIdx_other _ _ _ ⟨1, Nat.one_lt_two⟩ (by show ¬ 1 + 2 = 2; omega))
  rw [e2]
  refine (congrArg (fun j => (w j).getLsbD (8 * i.val + q)) hi).trans ?_
  show (w (ix2 s l)).getLsbD (8 * i.val + q) = _
  rw [hw, word4_bit c _ (by omega)]
  have e3 : (8 * i.val + q) / 8 = i.val := by omega
  have e4 : (8 * i.val + q) % 8 = q := by omega
  rw [e4]
  exact congrArg (fun j => (c j).getLsbD q) (Fin.ext e3)

/-- The lane a code looks up: its low seven bits. -/
def lane (k : BitVec 8) : Fin 128 := ⟨k.toNat % 128, by omega⟩

/-- The lanes to look up are the codes' low seven bits. -/
theorem chunkIdx_apply (w : IVec S8x128 32) (k : Fin 4 → BitVec 8) (s : Fin 8) (l : Fin 128) (hw : w (ix2 s l) = word4 k)
    (i : Fin 4) (p : Fin 32) (hp : p.val = 4 * s.val + i.val) : chunkIdx w (ix2 p l) = k i &&& 127#8 := by
  refine bytes_word4 (andi w (broadcast S8x128 2139062143#32)) (fun i => k i &&& 127#8) s l ?_ i p hp
  have h127 : ∀ j, j < 8 → (127#8 : BitVec 8).getLsbD j = decide (j < 7) := fun j hj => by interval_cases j <;> rfl
  show w (ix2 s l) &&& 2139062143#32 = _
  rw [hw]
  refine eq_word4 _ _ fun q hq => ?_
  rw [low7_bit _ q hq, word4_bit k q hq, BitVec.getLsbD_and, h127 _ (Nat.mod_lt q (by decide))]

/-- All ones in each byte whose code has its top bit set. -/
theorem chunkHigh_apply (w : IVec S8x128 32) (k : Fin 4 → BitVec 8) (s : Fin 8) (l : Fin 128) (hw : w (ix2 s l) = word4 k) :
    chunkHigh w (ix2 s l) = word4 fun i => if (k i).getLsbD 7 then 255#8 else 0#8 := by
  have h255 : ∀ j, j < 8 → (255#8 : BitVec 8).getLsbD j = true := fun j hj => by interval_cases j <;> rfl
  show (((w (ix2 s l)).sshiftRight 7 &&& 16843009#32) * 255#32) = _
  rw [hw]
  refine eq_word4 _ _ fun q hq => ?_
  rw [high_bit _ q hq, word4_bit k _ (by omega)]
  have e1 : (8 * (q / 8) + 7) / 8 = q / 8 := by omega
  have e2 : (8 * (q / 8) + 7) % 8 = 7 := by omega
  rw [e2]
  refine (congrArg (fun j => (k j).getLsbD 7) (Fin.ext e1 : (⟨(8 * (q / 8) + 7) / 8, by omega⟩ : Fin 4) = ⟨q / 8, by omega⟩)).trans ?_
  show (k ⟨q / 8, _⟩).getLsbD 7 = _
  cases (k ⟨q / 8, by omega⟩).getLsbD 7 <;> simp [h255 _ (Nat.mod_lt q (by decide : 0 < 8))]

/-- The number a byte's low seven bits stand for, once widened. -/
theorem low7_toNat (k : BitVec 8) : ((k &&& 127#8).signExtend 32).toNat = k.toNat % 128 := by
  have h : (k &&& 127#8).toNat = k.toNat % 128 := by rw [BitVec.toNat_and]; exact Nat.and_two_pow_sub_one_eq_mod k.toNat 7
  have hm : (k &&& 127#8).msb = false := by rw [BitVec.msb_eq_decide, h]; simp; omega
  rw [BitVec.signExtend_eq_setWidth_of_msb_false hm, BitVec.toNat_setWidth, h]
  omega

/-- One table row looked up: byte `i` of the word is byte `i` of the row's word at the code's lane. -/
theorem gath_apply (row : Vec Ideal S1x8x128 .i32) (w : IVec S8x128 32) (R : Fin 128 → Fin 4 → BitVec 8) (k : Fin 4 → BitVec 8) (s : Fin 8) (l : Fin 128)
    (hR : ∀ l' : Fin 128, row (ix3 (0 : Fin 1) s l') = word4 (R l')) (hw : w (ix2 s l) = word4 k) :
    gath row (chunkIdx w) (ix2 s l) = word4 fun i => R (lane (k i)) i := by
  refine eq_word4 _ _ fun q hq => ?_
  unfold gath
  refine (bitcast_8_32_getLsbD_ix2 (R := 32) (r := 8) (n := 128) _ bitcasts_S32x128_w8_S8x128_w32 s l q hq (⟨4 * s.val + q / 8, by omega⟩ : Fin 32) rfl).trans ?_
  refine congrArg (fun v : BitVec 8 => v.getLsbD (q % 8)) ?_
  generalize hp : (⟨4 * s.val + q / 8, by omega⟩ : Fin 32) = p
  have hpv : p.val = 4 * s.val + q / 8 := by rw [← hp]
  have hk := chunkIdx_apply w k s l hw ⟨q / 8, by omega⟩ p hpv
  generalize chunkIdx w = idx at hk ⊢
  have hi : shapeCast S32x128 (shapeCast S32x128x1 (extsi 32 idx natLt_8_32) shapeCasts_S32x128_S32x128x1) shapeCasts_S32x128x1_S32x128 (ix2 p l)
      = (idx (ix2 p l)).signExtend 32 := by
    rw [shapeCast_shapeCast]
    rfl
  have hb : ∀ l' : Fin 128, bitcast S32x128 8 (shapeCast S8x128 row shapeCasts_S1x8x128_S8x128) bitcasts_S8x128_w32_S32x128_w8 (ix2 p l') = R l' ⟨q / 8, by omega⟩ := fun l' =>
    bytes_word4 _ (R l') s l' ((shapeCast_1ab_ab_apply _ _ _ _).trans (hR l')) ⟨q / 8, by omega⟩ p hpv
  generalize bitcast S32x128 8 (shapeCast S8x128 row shapeCasts_S1x8x128_S8x128) bitcasts_S8x128_w32_S32x128_w8 = B at hb ⊢
  generalize shapeCast S32x128 (shapeCast S32x128x1 (extsi 32 idx natLt_8_32) shapeCasts_S32x128_S32x128x1) shapeCasts_S32x128x1_S32x128 = I at hi ⊢
  have hj : (fun b : Fin 2 => if b = 1 then (⟨(I (ix2 p l)).toNat % S32x128.size b, Nat.mod_lt _ (Fin.pos (ix2 p l b))⟩ : Fin (S32x128.size b)) else ix2 p l b)
      = (ix2 p (lane (k ⟨q / 8, by omega⟩)) : S32x128.Idx) := by
    funext b
    match b with
    | ⟨0, _⟩ => rfl
    | ⟨1, _⟩ =>
      refine Fin.ext ?_
      show (I (ix2 p l)).toNat % 128 = (k ⟨q / 8, _⟩).toNat % 128
      rw [hi, hk, low7_toNat]; omega
  refine Eq.trans (b := ((B (ix2 p (lane (k ⟨q / 8, by omega⟩)))).signExtend 32).setWidth 8) (congrArg (fun j : S32x128.Idx => ((B j).signExtend 32).setWidth 8) hj) ?_
  rw [hb]
  generalize R (lane (k ⟨q / 8, by omega⟩)) ⟨q / 8, by omega⟩ = v
  refine BitVec.eq_of_getLsbD_eq fun j hj => ?_
  rw [BitVec.getLsbD_setWidth, BitVec.getLsbD_signExtend]
  simp [hj, show j < 32 by omega]

/-- The four bytes of a group: the entries of four subspaces at the four codes. -/
theorem groupBytes_apply (low flip : Vec Ideal S1x8x128 .i32) (w : IVec S8x128 32) (C : Fin 4 → Fin 256 → BitVec 8) (k : Fin 4 → BitVec 8) (s : Fin 8) (l : Fin 128)
    (hlow : ∀ l' : Fin 128, low (ix3 (0 : Fin 1) s l') = word4 fun i => C i ⟨l'.val, by omega⟩)
    (hflip : ∀ l' : Fin 128, flip (ix3 (0 : Fin 1) s l') = (word4 fun i => C i ⟨l'.val, by omega⟩) ^^^ (word4 fun i => C i ⟨l'.val + 128, by omega⟩))
    (hw : w (ix2 s l) = word4 k) : groupBytes low flip w (ix2 s l) = word4 fun i => C i ⟨(k i).toNat, (k i).isLt⟩ := by
  show gath low (chunkIdx w) (ix2 s l) ^^^ (gath flip (chunkIdx w) (ix2 s l) &&& chunkHigh w (ix2 s l)) = _
  rw [gath_apply low w (fun l' i => C i ⟨l'.val, by omega⟩) k s l hlow hw,
    gath_apply flip w (fun l' i => C i ⟨l'.val, by omega⟩ ^^^ C i ⟨l'.val + 128, by omega⟩) k s l (fun l' => (hflip l').trans (word4_xor _ _)) hw,
    chunkHigh_apply w k s l hw, word4_and, word4_xor]
  refine congrArg word4 (funext fun i => ?_)
  have hk := (k i).isLt
  have ht : (k i).getLsbD 7 = decide (128 ≤ (k i).toNat) := by
    rw [show (k i).getLsbD 7 = (k i).msb from rfl, BitVec.msb_eq_decide]
  have hx : ∀ a b : BitVec 8, a ^^^ ((a ^^^ b) &&& 255#8) = b := fun a b => by
    refine BitVec.eq_of_getLsbD_eq fun j hj => ?_
    have h255 : (255#8 : BitVec 8).getLsbD j = true := by interval_cases j <;> rfl
    rw [BitVec.getLsbD_xor, BitVec.getLsbD_and, BitVec.getLsbD_xor, h255]
    cases a.getLsbD j <;> cases b.getLsbD j <;> rfl
  by_cases h : 128 ≤ (k i).toNat
  · rw [if_pos (by rw [ht]; exact decide_eq_true h), hx]
    exact congrArg (C i) (Fin.ext (by show (k i).toNat % 128 + 128 = (k i).toNat; omega))
  · rw [if_neg (by rw [ht]; simp [h]), BitVec.and_zero, BitVec.xor_zero]
    exact congrArg (C i) (Fin.ext (by show (k i).toNat % 128 = (k i).toNat; omega))

/-- The two sums of two bytes, as a number. -/
theorem pairSums_toNat (v : IVec S8x128 32) (c : Fin 4 → BitVec 8) (s : Fin 8) (l : Fin 128) (hv : v (ix2 s l) = word4 c) :
    (pairSums v (ix2 s l)).toNat = ((c 0).toNat + (c 1).toNat) + 65536 * ((c 2).toNat + (c 3).toNat) := by
  rw [← pair_toNat c, ← hv]
  rfl

/-- A sum over the twelve subspaces, written out. -/
theorem sum_twelve (f : Fin 12 → ℕ) : ∑ m, f m = f 0 + f 1 + f 2 + f 3 + f 4 + f 5 + f 6 + f 7 + f 8 + f 9 + f 10 + f 11 := by
  simp only [Fin.sum_univ_castSucc, Fin.sum_univ_zero, zero_add]
  rfl

end Cert.KernelIdeal.Adc

end
-- ==== Proof.Spec.lean ====
module

public import Idealize.ShloMosaic.PureOps.Ideal.Laws
public import Idealize.ShloMosaic.Lib.Pointwise

@[expose] public section

noncomputable section

namespace Cert.Adc

open Idealize.ShloMosaic

variable (q : Fin 2 → Fin 12 → Fin 8 → EReal) (p : Fin 12 → Fin 256 → Fin 8 → EReal)

/-- The squared distance of subvector `m` of query `b` to centroid `c`. -/
def lut (b : Fin 2) (m : Fin 12) (c : Fin 256) : EReal := ∑ s : Fin 8, (q b m s - p m c s) * (q b m s - p m c s)

/-- The least distance in a subspace. -/
def bias (b : Fin 2) (m : Fin 12) : EReal := Finset.univ.inf fun c => lut q p b m c

/-- The distance above the least. -/
def rel (b : Fin 2) (m : Fin 12) (c : Fin 256) : EReal := lut q p b m c - bias q p b m

/-- The greatest distance above the least, over all the subspaces. -/
def amax (b : Fin 2) : EReal := Finset.univ.sup fun m => Finset.univ.sup fun c => rel q p b m c

/-- The step of the quantiser: one where every distance is the least. -/
def scale (b : Fin 2) : EReal := Scalar.select (Ideal.cmp .ogt (amax q p b) 0) (Ideal.div (amax q p b) ((255 : ℝ) : EReal)) 1

/-- The code of a distance, as a 32-bit word. -/
def code (b : Fin 2) (m : Fin 12) (c : Fin 256) : BitVec 32 :=
  Ideal.fptosi 32 (min ((255 : ℝ) : EReal) (max 0 (Ideal.liftRound Ideal.roundHalfEven (Ideal.div (rel q p b m c) (scale q p b)))))

/-- The integer distance of a point with the codes `k`: the codes of its twelve centroids summed. -/
def dint (b : Fin 2) (k : Fin 12 → Fin 256) : BitVec 32 := BitVec.ofNat 32 (∑ m : Fin 12, (code q p b m (k m)).toNat)

/-- The distance: the integer distance back on the scale of the distances. -/
def dist (b : Fin 2) (k : Fin 12 → Fin 256) : EReal :=
  scale q p b * (((dint q p b k).toInt : ℝ) : EReal) + ∑ m : Fin 12, bias q p b m

/-- The number the pattern of 255 stands for. -/
theorem ofBits_255 : Ideal.ofBits .f32 0x437F0000#32 = ((255 : ℝ) : EReal) := by
  simp [Ideal.ofBits, Ideal.ieee, -EReal.coe_mul]; norm_num
/-- The pattern of infinity. -/
theorem ofBits_top : Ideal.ofBits .f32 0x7F800000#32 = ⊤ := by simp [Ideal.ofBits, Ideal.ieee]
/-- The pattern of minus infinity. -/
theorem ofBits_bot : Ideal.ofBits .f32 0xFF800000#32 = ⊥ := by simp [Ideal.ofBits, Ideal.ieee]
/-- The pattern of one. -/
theorem ofBits_one : Ideal.ofBits .f32 0x3F800000#32 = 1 := by simp [Ideal.ofBits, Ideal.ieee, -EReal.coe_mul]; norm_num

/-- A code is a byte: the rounded quotient is clipped at 0 and 255. -/
theorem code_lt (b : Fin 2) (m : Fin 12) (c : Fin 256) : (code q p b m c).toNat < 256 := by
  unfold code
  generalize Ideal.liftRound Ideal.roundHalfEven (Ideal.div (rel q p b m c) (scale q p b)) = y
  have h0 : (0 : EReal) ≤ min ((255 : ℝ) : EReal) (max 0 y) := le_min (by exact_mod_cast (by norm_num : (0 : ℝ) ≤ 255)) (le_max_left _ _)
  have h1 : min ((255 : ℝ) : EReal) (max 0 y) ≤ ((255 : ℝ) : EReal) := min_le_left _ _
  generalize min ((255 : ℝ) : EReal) (max 0 y) = z at h0 h1
  induction z using EReal.rec with
  | bot => simp at h0
  | top => simp at h1
  | coe r =>
    have r0 : 0 ≤ r := by exact_mod_cast h0
    have r1 : r ≤ 255 := by exact_mod_cast h1
    have f0 : (0 : ℤ) ≤ ⌊r⌋ := Int.floor_nonneg.2 r0
    have f1 : ⌊r⌋ ≤ 255 := by
      have : (⌊r⌋ : ℝ) ≤ 255 := (Int.floor_le r).trans r1
      exact_mod_cast this
    rw [Ideal.fptosi, Ideal.toIntClamped_coe, if_pos r0, min_eq_right (by norm_num; omega), max_eq_right (by norm_num; omega), BitVec.toNat_ofInt]
    norm_num
    omega

end Cert.Adc

end
-- ==== Proof.LutValue.lean ====
module

public import proofs.«01_k».proof.Proof.Contents
public import proofs.«01_k».proof.Proof.Spec
public import Idealize.ShloMosaic.Lib.KernelVsHost.SublaneAllReduce
public import Idealize.ShloMosaic.Lib.ValueLayoutCasts

@[expose] public section

set_option maxRecDepth 16384

noncomputable section

namespace Cert.KernelIdeal.Adc

open Idealize.ShloMosaic hiding ix0 ix1 ix2 ix3 ix4
open Idealize.ShloMosaic.ValueIdx
open Cert.KernelIdeal Cert.KernelIdeal.Gen Cert.Adc

/-- Coordinate `s` of subvector `m` of query `b`, and of centroid `c`. -/
def qOf (x : Vec Ideal S2x96 .bf16) : Fin 2 → Fin 12 → Fin 8 → EReal := fun b m s => x (ix2 b (⟨8 * m.val + s.val, by omega⟩ : Fin 96))
def pOf (cb : Fin 12 → Vec Ideal S1x8x256 .f32) : Fin 12 → Fin 256 → Fin 8 → EReal := fun m c s => cb m (ix3 (0 : Fin 1) s c)

variable (x : Vec Ideal S2x96 .bf16) (cb : Fin 12 → Vec Ideal S1x8x256 .f32) (b : Fin 2) (m : Fin 12)

/-- The lane of a row of indices is the one picked exactly when it is the row's offset into the subvector. -/
theorem pick_iff (k : Fin 96) (r : Fin 8) (m : Fin 12) :
    BitVec.ofNat 32 k.val = BitVec.ofNat 32 r.val + BitVec.ofNat 32 (8 * m.val) ↔ k.val = 8 * m.val + r.val := by
  rw [← BitVec.toNat_inj]
  simp only [BitVec.toNat_ofNat, BitVec.toNat_add]
  have := k.isLt; have := r.isLt; have := m.isLt
  omega

/-- A query copied to eight rows. -/
theorem queryRows_apply (r : Fin 8) (k : Fin 96) : queryRows x b (ix2 r k) = x (ix2 b k) := by
  unfold queryRows
  rw [broadcastTo_1b_ab_apply]
  pointwise
  try rfl

/-- A subvector of a query as a column: coordinate `r` in row `r`. -/
theorem queryCol_apply (r : Fin 8) (u : Fin 1) : queryCol x b m (ix2 r u) = qOf x b m r := by
  unfold queryCol
  rw [shapeCast_a_a1_apply]
  refine (Ideal.multiReduction_add_single _ _ _ _ _ _).trans ?_
  have hl : ∀ k : Fin 96, reduces_S8x96_S8.lift (ix1 r) k = ix2 r k := fun k => by
    funext a; refine Fin.ext ?_
    match a with
    | ⟨0, _⟩ => rfl
    | ⟨1, _⟩ => rfl
  have ht : ∀ k : Fin 96, (select (cmpi .eq (iota .tc S8x96 32 [1] iota_S8x96_d1_w32)
        (addi (iota .tc S8x96 32 [0] iota_S8x96_d0_w32) (broadcast S8x96 (BitVec.ofNat 32 (8 * m.val)))))
      (queryRows x b) (broadcast S8x96 (Scalar.ofBits .f32 0x00000000#32 : Ideal .f32))) (ix2 r k)
      = if k.val = 8 * m.val + r.val then x (ix2 b k) else 0 := fun k => by
    rw [← queryRows_apply x b r k]
    have hz : (Scalar.ofBits .f32 0x00000000#32 : Ideal .f32) = 0 := Ideal.ofBits_zero_f32
    show Scalar.select (IntOp.cmpi .eq (BitVec.ofNat 32 (0 * 96 + k.val)) (BitVec.ofNat 32 (0 * 8 + r.val) + BitVec.ofNat 32 (8 * m.val)))
      (queryRows x b (ix2 r k)) (Scalar.ofBits .f32 0x00000000#32 : Ideal .f32) = _
    simp only [hz, Nat.zero_mul, Nat.zero_add]
    by_cases h : k.val = 8 * m.val + r.val
    · rw [if_pos h, (pick_iff k r m).2 h]; simp [IntOp.cmpi, Scalar.select]
    · rw [if_neg h]
      have h' : ¬ BitVec.ofNat 32 k.val = BitVec.ofNat 32 r.val + BitVec.ofNat 32 (8 * m.val) := fun e => h ((pick_iff k r m).1 e)
      have hc : IntOp.cmpi .eq (BitVec.ofNat 32 k.val) (BitVec.ofNat 32 r.val + BitVec.ofNat 32 (8 * m.val)) = 0#1 := by
        show BitVec.ofBool (BitVec.ofNat 32 k.val == BitVec.ofNat 32 r.val + BitVec.ofNat 32 (8 * m.val)) = 0#1
        rw [beq_false_of_ne h']; rfl
      rw [hc, select_zero]
  refine (Finset.sum_congr rfl fun k _ => ((congrArg _ (hl k)).trans (ht k))).trans ?_
  refine (Finset.sum_eq_single (⟨8 * m.val + r.val, by omega⟩ : Fin 96) (fun k _ hk => if_neg fun e => hk (Fin.ext e)) (fun h => absurd (Finset.mem_univ _) h)).trans ?_
  rw [if_pos rfl]; rfl

/-- The squared difference in one coordinate. -/
theorem sqDiff_apply (r : Fin 8) (c : Fin 256) :
    sqDiff x cb b m (ix2 r c) = (qOf x b m r - pOf cb m c r) * (qOf x b m r - pOf cb m c r) := by
  have hq : broadcastTo S8x256 (queryCol x b m) broadcasts_S8x1_S8x256 (ix2 r c) = qOf x b m r := by
    rw [broadcastTo_apply _ _ _ (ix2 r (0 : Fin 1)) (by intro a; fin_cases a <;> simp [ix2])]
    exact queryCol_apply x b m r 0
  have hp : shapeCast S8x256 (cb m) shapeCasts_S1x8x256_S8x256 (ix2 r c) = pOf cb m c r := shapeCast_1ab_ab_apply _ _ r c
  show (broadcastTo S8x256 (queryCol x b m) broadcasts_S8x1_S8x256 (ix2 r c) - shapeCast S8x256 (cb m) shapeCasts_S1x8x256_S8x256 (ix2 r c))
    * (broadcastTo S8x256 (queryCol x b m) broadcasts_S8x1_S8x256 (ix2 r c) - shapeCast S8x256 (cb m) shapeCasts_S1x8x256_S8x256 (ix2 r c)) = _
  rw [hq, hp]

/-- The three rotations leave on every row the sum over the eight rows. -/
theorem lutRows_apply (r : Fin 8) (c : Fin 256) : lutRows x cb b m (ix2 r c) = lut (qOf x) (pOf cb) b m c := by
  have h := SublaneAllReduce.sublaneAllReduce_apply (α := EReal) (n := 256) (f := HAdd.hAdd) rotates_S8x256_d0 (sqDiff x cb b m) r c
  have h' : lutRows x cb b m (ix2 r c) = SublaneAllReduce.combine8 (α := EReal) HAdd.hAdd (fun k => sqDiff x cb b m (ix2 k c)) := h
  rw [h', lut]
  have hs : (∑ s : Fin 8, (qOf x b m s - pOf cb m c s) * (qOf x b m s - pOf cb m c s))
      = (Finset.univ : Finset (Fin 8)).fold HAdd.hAdd (0 : EReal) (fun k => sqDiff x cb b m (ix2 k c)) := by
    simp only [sqDiff_apply]; rfl
  rw [hs, SublaneAllReduce.fold_univ_fin8, zero_add]

/-- A least entry along one axis is the fold of the minimum along it. -/
theorem minimum_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Every row holds the least distance of the subspace. -/
theorem biasCol_apply (r : Fin 8) (u : Fin 1) : biasCol x cb b m (ix2 r u) = bias (qOf x) (pOf cb) b m := by
  unfold biasCol
  rw [shapeCast_a_a1_apply]
  refine (minimum_single _ _ _ _ _ _).trans ?_
  have hl : ∀ k : Fin 256, reduces_S8x256_S8.lift (ix1 r) k = ix2 r k := fun k => by
    funext a; refine Fin.ext ?_
    match a with
    | ⟨0, _⟩ => rfl
    | ⟨1, _⟩ => rfl
  have hf : lutRows x cb b m ∘ reduces_S8x256_S8.lift (ix1 r) = fun c : Fin 256 => lut (qOf x) (pOf cb) b m c :=
    funext fun k => (congrArg _ (hl k)).trans (lutRows_apply x cb b m r k)
  have hT : (FloatOps.ofBits .f32 0x7F800000#32 : Ideal .f32) = (⊤ : EReal) := ofBits_top
  rw [hf, hT]
  rfl

/-- Every row holds the distances above the least. -/
theorem relRows_apply (r : Fin 8) (c : Fin 256) : relRows x cb b m (ix2 r c) = rel (qOf x) (pOf cb) b m c := by
  have hb : broadcastTo S8x256 (biasCol x cb b m) broadcasts_S8x1_S8x256 (ix2 r c) = bias (qOf x) (pOf cb) b m := by
    rw [broadcastTo_apply _ _ _ (ix2 r (0 : Fin 1)) (by intro a; fin_cases a <;> simp [ix2])]
    exact biasCol_apply x cb b m r 0
  show lutRows x cb b m (ix2 r c) - broadcastTo S8x256 (biasCol x cb b m) broadcasts_S8x1_S8x256 (ix2 r c) = _
  rw [hb, lutRows_apply]; rfl

/-- The entrywise greatest over the first `n + 1` subspaces. -/
theorem relMax_apply (r : Fin 8) (c : Fin 256) : ∀ n, relMax x cb b n (ix2 r c)
    = (Finset.range (n + 1)).sup fun i => rel (qOf x) (pOf cb) b (Fin.ofNat 12 i) c
  | 0 => by rw [show Finset.range (0 + 1) = {0} from rfl, Finset.sup_singleton]; exact relRows_apply x cb b 0 r c
  | n + 1 => by
    rw [Finset.range_add_one, Finset.sup_insert, sup_comm, ← relMax_apply r c n, ← relRows_apply x cb b (Fin.ofNat 12 (n + 1)) r c]
    rfl

/-- Every row holds the greatest distance above the least. -/
theorem amaxCol_apply (r : Fin 8) (u : Fin 1) : amaxCol x cb b (ix2 r u) = amax (qOf x) (pOf cb) b := by
  unfold amaxCol
  rw [shapeCast_a_a1_apply]
  refine (Ideal.multiReduction_maximumf_single _ _ _ _ _ _).trans ?_
  have hl : ∀ k : Fin 256, reduces_S8x256_S8.lift (ix1 r) k = ix2 r k := fun k => by
    funext a; refine Fin.ext ?_
    match a with
    | ⟨0, _⟩ => rfl
    | ⟨1, _⟩ => rfl
  have hm : ∀ c, ((Finset.range (11 + 1)).sup fun i => rel (qOf x) (pOf cb) b (Fin.ofNat 12 i) c)
      = Finset.univ.sup fun m : Fin 12 => rel (qOf x) (pOf cb) b m c := fun c =>
    le_antisymm (Finset.sup_le fun i _ => Finset.le_sup (f := fun m : Fin 12 => rel (qOf x) (pOf cb) b m c) (Finset.mem_univ _))
      (Finset.sup_le fun m _ => by
        have h := Finset.le_sup (f := fun i => rel (qOf x) (pOf cb) b (Fin.ofNat 12 i) c) (Finset.mem_range.2 (show m.val < 11 + 1 from m.isLt))
        have e : Fin.ofNat 12 m.val = m := Fin.ext (Nat.mod_eq_of_lt m.isLt)
        simpa only [e] using h)
  have hf : relMax x cb b 11 ∘ reduces_S8x256_S8.lift (ix1 r) = fun c : Fin 256 => Finset.univ.sup fun m : Fin 12 => rel (qOf x) (pOf cb) b m c :=
    funext fun k => ((congrArg _ (hl k)).trans (relMax_apply x cb b r k 11)).trans (hm k)
  have hT : (FloatOps.ofBits .f32 0xFF800000#32 : Ideal .f32) = (⊥ : EReal) := ofBits_bot
  rw [hf, hT, amax, Finset.sup_comm]
  rfl

/-- Every row holds the scale. -/
theorem scaleCol_apply (r : Fin 8) (u : Fin 1) : scaleCol x cb b (ix2 r u) = scale (qOf x) (pOf cb) b := by
  show Scalar.select (Ideal.cmp .ogt (amaxCol x cb b (ix2 r u)) (Ideal.ofBits .f32 0x00000000#32))
    (Ideal.div (amaxCol x cb b (ix2 r u)) (Ideal.ofBits .f32 0x437F0000#32)) (Ideal.ofBits .f32 0x3F800000#32) = _
  rw [amaxCol_apply, ofBits_255, ofBits_one, Ideal.ofBits_zero_f32]; rfl

/-- The codes on every row are the codes of the distances. -/
theorem codeRows_apply (r : Fin 8) (c : Fin 256) : codeRows x cb b m (ix2 r c) = code (qOf x) (pOf cb) b m c := by
  have hb : broadcastTo S8x256 (scaleCol x cb b) broadcasts_S8x1_S8x256 (ix2 r c) = scale (qOf x) (pOf cb) b := by
    rw [broadcastTo_apply _ _ _ (ix2 r (0 : Fin 1)) (by intro a; fin_cases a <;> simp [ix2])]
    exact scaleCol_apply x cb b r 0
  show Ideal.fptosi 32 (min (Ideal.ofBits .f32 0x437F0000#32) (max (Ideal.ofBits .f32 0x00000000#32)
    (Ideal.liftRound Ideal.roundHalfEven (Ideal.div (relRows x cb b m (ix2 r c)) (broadcastTo S8x256 (scaleCol x cb b) broadcasts_S8x1_S8x256 (ix2 r c)))))) = _
  rw [hb, relRows_apply, ofBits_255, Ideal.ofBits_zero_f32]; rfl

/-- The biases in their lanes. -/
theorem biasRow_apply (r : Fin 8) (k : Fin 12) : ∀ n ≤ 12, biasRow x cb b n (ix2 r k)
    = if k.val < n then bias (qOf x) (pOf cb) b k else 0
  | 0, _ => by rw [if_neg (Nat.not_lt_zero _)]; exact Ideal.ofBits_zero_f32
  | n + 1, hn => by
    have hb : broadcastTo S8x12 (shapeCast S8x1 (biasCol x cb b (Fin.ofNat 12 n)) shapeCasts_S8x1_S8x1) broadcasts_S8x1_S8x12 (ix2 r k)
        = bias (qOf x) (pOf cb) b (Fin.ofNat 12 n) := by
      rw [broadcastTo_apply _ _ _ (ix2 r (0 : Fin 1)) (by intro a; fin_cases a <;> simp [ix2]),
        shapeCast_apply _ _ _ (ix2 r (0 : Fin 1)) rfl]
      exact biasCol_apply x cb b _ r 0
    show Scalar.select (IntOp.cmpi .eq (BitVec.ofNat 32 (0 * 12 + k.val)) (BitVec.ofNat 32 n))
      (broadcastTo S8x12 (shapeCast S8x1 (biasCol x cb b (Fin.ofNat 12 n)) shapeCasts_S8x1_S8x1) broadcasts_S8x1_S8x12 (ix2 r k))
      (biasRow x cb b n (ix2 r k)) = _
    rw [hb, biasRow_apply r k n (by omega), Nat.zero_mul, Nat.zero_add]
    by_cases h : k.val = n
    · have e : Fin.ofNat 12 n = k := Fin.ext (by simp [← h, Nat.mod_eq_of_lt k.isLt])
      rw [e, if_pos (by omega : k.val < n + 1)]; simp [IntOp.cmpi, Scalar.select, h]
    · have h' : ¬ BitVec.ofNat 32 k.val = BitVec.ofNat 32 n := by
        rw [← BitVec.toNat_inj]; simp only [BitVec.toNat_ofNat]; have := k.isLt; omega
      have hi : (k.val < n + 1) ↔ (k.val < n) := by omega
      have hc : IntOp.cmpi .eq (BitVec.ofNat 32 k.val) (BitVec.ofNat 32 n) = 0#1 := by
        show BitVec.ofBool (BitVec.ofNat 32 k.val == BitVec.ofNat 32 n) = 0#1
        rw [beq_false_of_ne h']; rfl
      simp only [hi]
      rw [hc, select_zero]

end Cert.KernelIdeal.Adc

end
-- ==== Proof.TableValue.lean ====
module

public import proofs.«01_k».proof.Proof.LutValue
public import proofs.«01_k».proof.Proof.Words

@[expose] public section

set_option maxRecDepth 16384

noncomputable section

namespace Cert.KernelIdeal.Adc

open Idealize.ShloMosaic hiding ix0 ix1 ix2 ix3 ix4
open Idealize.ShloMosaic.ValueIdx
open Cert.KernelIdeal Cert.KernelIdeal.Gen Cert.Adc

/-- A code as a byte. -/
def code8 (q : Fin 2 → Fin 12 → Fin 8 → EReal) (p : Fin 12 → Fin 256 → Fin 8 → EReal) (b : Fin 2) (m : Fin 12) (c : Fin 256) : BitVec 8 :=
  (code q p b m c).setWidth 8

variable (x : Vec Ideal S2x96 .bf16) (cb : Fin 12 → Vec Ideal S1x8x256 .f32)

/-- The packed word of four subspaces is the word of their codes. -/
theorem packWord_apply (b : Fin 2) (g : Fin 3) (s : Fin 8) (c : Fin 256) :
    packWord x cb b g (ix2 s c) = word4 fun i => code8 (qOf x) (pOf cb) b ⟨4 * g.val + i.val, by omega⟩ c := by
  have e : ∀ m, (code (qOf x) (pOf cb) b m c) = ((code8 (qOf x) (pOf cb) b m c)).setWidth 32 := fun m => by
    refine BitVec.eq_of_toNat_eq ?_
    have h := code_lt (qOf x) (pOf cb) b m c
    rw [BitVec.toNat_setWidth, code8, BitVec.toNat_setWidth]; omega
  have s8 : ∀ v : BitVec 32, IntOp.shli .vector v 8#32 = v <<< 8 := fun v => rfl
  have s16 : ∀ v : BitVec 32, IntOp.shli .vector v 16#32 = v <<< 16 := fun v => rfl
  have s24 : ∀ v : BitVec 32, IntOp.shli .vector v 24#32 = v <<< 24 := fun v => rfl
  show codeRows x cb b _ (ix2 s c) ||| IntOp.shli .vector (codeRows x cb b _ (ix2 s c)) 8#32
    ||| IntOp.shli .vector (codeRows x cb b _ (ix2 s c)) 16#32 ||| IntOp.shli .vector (codeRows x cb b _ (ix2 s c)) 24#32 = _
  rw [s8, s16, s24, codeRows_apply, codeRows_apply, codeRows_apply, codeRows_apply, e, e, e, e]
  rfl

/-- A word of the table: the codes of the low 128 centroids. -/
theorem lowWord_apply (b : Fin 2) (g : Fin 3) (s : Fin 8) (l : Fin 128) :
    lowWord x cb b g (ix2 s l) = word4 fun i => code8 (qOf x) (pOf cb) b ⟨4 * g.val + i.val, by omega⟩ ⟨l.val, by omega⟩ := by
  rw [← packWord_apply x cb b g s ⟨l.val, by omega⟩]
  unfold lowWord
  refine congrArg (packWord x cb b g) (funext fun a => Fin.ext ?_)
  match a with
  | ⟨0, _⟩ => show 0 + s.val = s.val; omega
  | ⟨1, _⟩ => show 0 + l.val = l.val; omega

/-- A word of the table: the codes of the low 128 centroids against those of the high 128. -/
theorem flipWord_apply (b : Fin 2) (g : Fin 3) (s : Fin 8) (l : Fin 128) :
    flipWord x cb b g (ix2 s l) = (word4 fun i => code8 (qOf x) (pOf cb) b ⟨4 * g.val + i.val, by omega⟩ ⟨l.val, by omega⟩)
      ^^^ (word4 fun i => code8 (qOf x) (pOf cb) b ⟨4 * g.val + i.val, by omega⟩ ⟨l.val + 128, by omega⟩) := by
  rw [← lowWord_apply x cb b g s l, ← packWord_apply x cb b g s ⟨l.val + 128, by omega⟩]
  have : extractStridedSlice S8x128 ![0, 128] (packWord x cb b g) slices_S8x256_o0_128_S8x128 (ix2 s l)
      = packWord x cb b g (ix2 s ⟨l.val + 128, by omega⟩) := by
    refine congrArg (packWord x cb b g) (funext fun a => Fin.ext ?_)
    match a with
    | ⟨0, _⟩ => show 0 + s.val = s.val; omega
    | ⟨1, _⟩ => show 128 + l.val = l.val + 128; omega
  rw [← this]; rfl

/-- A row of the table, read where it was stored. -/
theorem tabOf_apply (x1 : Vec Ideal S12x8x256 .f32) (r : Fin 12) (s : Fin 8) (l : Fin 128) :
    tabOf x x1 (ix3 r s l) = (bif r.val % 2 == 0 then lowWord x (cbOf x1) ⟨r.val / 2 % 2, by omega⟩ ⟨r.val / 4, by omega⟩
      else flipWord x (cbOf x1) ⟨r.val / 2 % 2, by omega⟩ ⟨r.val / 4, by omega⟩) (ix2 s l) := by
  rw [tabOf_def]
  refine View.canon_apply_of_pieces (Val := Elt Ideal) (e := .i32) (fun j : S12x8x128.Idx => (bif (j 0).val % 2 == 0
      then lowWord x (cbOf x1) ⟨(j 0).val / 2 % 2, by omega⟩ ⟨(j 0).val / 4, by have : (j 0).val < 12 := (j 0).isLt; omega⟩
      else flipWord x (cbOf x1) ⟨(j 0).val / 2 % 2, by omega⟩ ⟨(j 0).val / 4, by have : (j 0).val < 12 := (j 0).isLt; omega⟩) (ix2 (j 1) (j 2))) _ ?_ (ix3 r s l) ?_
  · intro p hp y
    obtain ⟨i, rfl⟩ := (List.mem_ofFn' _ _).1 hp
    have h0 : (⟨3, ![1, 8, 128]⟩ : Shape).size 0 = 1 := rfl
    have hy : y = ix3 (0 : Fin 1) (y 1) (y 2) := by
      funext a
      match a with
      | ⟨0, _⟩ => exact Subsingleton.elim (α := Fin 1) _ _
      | ⟨1, _⟩ => rfl
      | ⟨2, _⟩ => rfl
    have he : (tabPiece x (cbOf x1) ⟨11 - i.val, by omega⟩).1.emb y = (ix3 (⟨11 - i.val, by omega⟩ : Fin 12) (y 1) (y 2) : S12x8x128.Idx) := by
      funext a; refine Fin.ext ?_
      match a with
      | ⟨0, _⟩ => have : (y 0).val < 1 := (y 0).isLt
                  show (11 - i.val) + 1 * (y 0).val = 11 - i.val; omega
      | ⟨1, _⟩ => show 0 + 1 * (y 1).val = (y 1).val; omega
      | ⟨2, _⟩ => show 0 + 1 * (y 2).val = (y 2).val; omega
    rw [he]
    refine (congrArg _ hy).trans ?_
    exact shapeCast_ab_1ab_apply _ _ _ _ _
  · refine ⟨_, (List.mem_ofFn' _ _).2 ⟨⟨11 - r.val, by omega⟩, rfl⟩, ?_⟩
    show ix3 r s l ∈ (tabPiece x (cbOf x1) ⟨11 - (11 - r.val), by omega⟩).1.set
    unfold tabPiece
    rw [Rect.mem_set_unit]
    intro a
    match a with
    | ⟨0, _⟩ => show 11 - (11 - r.val) ≤ r.val ∧ r.val < 11 - (11 - r.val) + 1; omega
    | ⟨1, _⟩ => show 0 ≤ s.val ∧ s.val < 0 + 8; omega
    | ⟨2, _⟩ => show 0 ≤ l.val ∧ l.val < 0 + 128; omega

/-- The first row of each pair in the table holds the codes of the first 128 centroids, four subspaces to a word. -/
theorem tab_low (x1 : Vec Ideal S12x8x256 .f32) (g : Fin 3) (b : Fin 2) (r : Fin 12) (hr : r.val = 4 * g.val + 2 * b.val) (s : Fin 8) (l : Fin 128) :
    tabOf x x1 (ix3 r s l) = word4 fun i => code8 (qOf x) (pOf (cbOf x1)) b ⟨4 * g.val + i.val, by omega⟩ ⟨l.val, by omega⟩ := by
  have hb : (⟨r.val / 2 % 2, by omega⟩ : Fin 2) = b := Fin.ext (by show r.val / 2 % 2 = b.val; omega)
  have hg : (⟨r.val / 4, by omega⟩ : Fin 3) = g := Fin.ext (by show r.val / 4 = g.val; omega)
  have hp : (r.val % 2 == 0) = true := beq_iff_eq.2 (by omega)
  rw [tabOf_apply, hb, hg, hp]
  exact lowWord_apply x (cbOf x1) b g s l

/-- The second row of each pair holds what turns them into the codes of the last 128. -/
theorem tab_flip (x1 : Vec Ideal S12x8x256 .f32) (g : Fin 3) (b : Fin 2) (r : Fin 12) (hr : r.val = 4 * g.val + 2 * b.val + 1) (s : Fin 8) (l : Fin 128) :
    tabOf x x1 (ix3 r s l) = (word4 fun i => code8 (qOf x) (pOf (cbOf x1)) b ⟨4 * g.val + i.val, by omega⟩ ⟨l.val, by omega⟩)
      ^^^ (word4 fun i => code8 (qOf x) (pOf (cbOf x1)) b ⟨4 * g.val + i.val, by omega⟩ ⟨l.val + 128, by omega⟩) := by
  have hb : (⟨r.val / 2 % 2, by omega⟩ : Fin 2) = b := Fin.ext (by show r.val / 2 % 2 = b.val; omega)
  have hg : (⟨r.val / 4, by omega⟩ : Fin 3) = g := Fin.ext (by show r.val / 4 = g.val; omega)
  have hp : (r.val % 2 == 0) = false := beq_eq_false_iff_ne.2 (by omega)
  rw [tabOf_apply, hb, hg, hp]
  exact flipWord_apply x (cbOf x1) b g s l

/-- The column a row of the scales repeats. -/
def sbCol (r : Fin 4) : FVec Ideal S8x1 .f32 :=
  bif r.val % 2 == 0 then scaleCol x cb ⟨r.val / 2, by omega⟩
  else shapeCast S8x1 (multiReduction .add [1] S8 (biasRow x cb ⟨r.val / 2, by omega⟩ 12) 0x00000000#32 reduces_S8x12_S8 (.inl rfl) rfl) shapeCasts_S8_S8x1

/-- A row stored to the scales, entry by entry. -/
theorem sbPiece_apply (r : Fin 4) (s : Fin 8) (l : Fin 128) : (sbPiece x cb r).2 (ix3 (0 : Fin 1) s l) = sbCol x cb r (ix2 s (0 : Fin 1)) := by
  show shapeCast S1x8x128 (broadcastTo S8x128 (shapeCast S8x1 (sbCol x cb r) shapeCasts_S8x1_S8x1) broadcasts_S8x1_S8x128) shapeCasts_S8x128_S1x8x128
    (ix3 (0 : Fin 1) s l) = _
  rw [shapeCast_ab_1ab_apply, broadcastTo_apply _ _ _ (ix2 s (0 : Fin 1)) (by intro a; fin_cases a <;> simp [ix2])]
  exact shapeCast_apply _ _ _ (ix2 s (0 : Fin 1)) rfl

/-- A row of the scales, read where it was stored. -/
theorem sbOf_apply (x1 : Vec Ideal S12x8x256 .f32) (r : Fin 4) (s : Fin 8) (l : Fin 128) :
    sbOf x x1 (ix3 r s l) = sbCol x (cbOf x1) r (ix2 s (0 : Fin 1)) := by
  rw [sbOf_def]
  refine View.canon_apply_of_pieces (Val := Elt Ideal) (e := .f32) (fun j : S4x8x128.Idx => sbCol x (cbOf x1) (j 0) (ix2 (j 1) (0 : Fin 1))) _ ?_ (ix3 r s l) ?_
  · intro p hp y
    obtain ⟨i, rfl⟩ := (List.mem_ofFn' _ _).1 hp
    have hy : y = ix3 (0 : Fin 1) (y 1) (y 2) := by
      funext a
      match a with
      | ⟨0, _⟩ => exact Subsingleton.elim (α := Fin 1) _ _
      | ⟨1, _⟩ => rfl
      | ⟨2, _⟩ => rfl
    have he : (sbPiece x (cbOf x1) ⟨3 - i.val, by omega⟩).1.emb y = (ix3 (⟨3 - i.val, by omega⟩ : Fin 4) (y 1) (y 2) : S4x8x128.Idx) := by
      funext a; refine Fin.ext ?_
      match a with
      | ⟨0, _⟩ => have : (y 0).val < 1 := (y 0).isLt
                  show (3 - i.val) + 1 * (y 0).val = 3 - i.val; omega
      | ⟨1, _⟩ => show 0 + 1 * (y 1).val = (y 1).val; omega
      | ⟨2, _⟩ => show 0 + 1 * (y 2).val = (y 2).val; omega
    rw [he]
    exact (congrArg _ hy).trans (sbPiece_apply x (cbOf x1) ⟨3 - i.val, by omega⟩ (y 1) (y 2))
  · refine ⟨_, (List.mem_ofFn' _ _).2 ⟨⟨3 - r.val, by omega⟩, rfl⟩, ?_⟩
    show ix3 r s l ∈ (sbPiece x (cbOf x1) ⟨3 - (3 - r.val), by omega⟩).1.set
    unfold sbPiece
    rw [Rect.mem_set_unit]
    intro a
    match a with
    | ⟨0, _⟩ => show 3 - (3 - r.val) ≤ r.val ∧ r.val < 3 - (3 - r.val) + 1; omega
    | ⟨1, _⟩ => show 0 ≤ s.val ∧ s.val < 0 + 8; omega
    | ⟨2, _⟩ => show 0 ≤ l.val ∧ l.val < 0 + 128; omega

/-- The even rows of the scales hold the scale of a query. -/
theorem sb_scale (x1 : Vec Ideal S12x8x256 .f32) (b : Fin 2) (r : Fin 4) (hr : r.val = 2 * b.val) (s : Fin 8) (l : Fin 128) :
    sbOf x x1 (ix3 r s l) = scale (qOf x) (pOf (cbOf x1)) b := by
  have hb : (⟨r.val / 2, by omega⟩ : Fin 2) = b := Fin.ext (by show r.val / 2 = b.val; omega)
  have hp : (r.val % 2 == 0) = true := beq_iff_eq.2 (by omega)
  rw [sbOf_apply, sbCol, hb, hp]
  exact scaleCol_apply x (cbOf x1) b s 0

/-- The odd rows hold the sum of a query's biases. -/
theorem sb_bias (x1 : Vec Ideal S12x8x256 .f32) (b : Fin 2) (r : Fin 4) (hr : r.val = 2 * b.val + 1) (s : Fin 8) (l : Fin 128) :
    sbOf x x1 (ix3 r s l) = ∑ m : Fin 12, bias (qOf x) (pOf (cbOf x1)) b m := by
  have hb : (⟨r.val / 2, by omega⟩ : Fin 2) = b := Fin.ext (by show r.val / 2 = b.val; omega)
  have hp : (r.val % 2 == 0) = false := beq_eq_false_iff_ne.2 (by omega)
  rw [sbOf_apply, sbCol, hb, hp, cond_false, shapeCast_a_a1_apply]
  refine (Ideal.multiReduction_add_single _ _ _ _ _ _).trans (Finset.sum_congr rfl fun k _ => ?_)
  have hl : reduces_S8x12_S8.lift (ix1 s) k = ix2 s k := by
    funext a; refine Fin.ext ?_
    match a with
    | ⟨0, _⟩ => rfl
    | ⟨1, _⟩ => rfl
  refine (congrArg _ hl).trans ((biasRow_apply x (cbOf x1) b s k 12 le_rfl).trans (if_pos ?_))
  exact k.isLt

/-- The first row of the codes of a subspace. -/
theorem codeRow0_apply (b : Fin 2) (m : Fin 12) (c : Fin 256) : codeRow0 x cb b m (ix2 (0 : Fin 1) c) = code (qOf x) (pOf cb) b m c := by
  rw [← codeRows_apply x cb b m 0 c]
  refine congrArg (codeRows x cb b m) (funext fun a => Fin.ext ?_)
  match a with
  | ⟨0, _⟩ => rfl
  | ⟨1, _⟩ => show 0 + c.val = c.val; omega

/-- The codes of a query, subspace by subspace. -/
theorem codesBlock_apply (b : Fin 2) (m : Fin 12) (c : Fin 256) :
    codesBlock x cb b (ix3 (0 : Fin 1) m c) = code8 (qOf x) (pOf cb) b m c := by
  unfold codesBlock
  refine (shapeCast_ab_1ab_apply _ _ _ _ _).trans ?_
  refine congrArg (BitVec.setWidth 8) ?_
  rw [← codeRow0_apply x cb b m c]
  exact concatenate_ofFn_unit_apply (t := S12x256) (s₁ := S1x256) (0 : Fin 2) (fun n : Fin 12 => codeRow0 x cb b n)
    concatenates_S1x256_S1x256_S1x256_S1x256_S1x256_S1x256_S1x256_S1x256_S1x256_S1x256_S1x256_S1x256_S12x256_d0 rfl rfl (ix2 m c) m rfl (ix2 (0 : Fin 1) c)
    (fun a ha => by
      match a with
      | ⟨0, _⟩ => exact absurd rfl ha
      | ⟨1, _⟩ => rfl)

/-- The stored codes. -/
theorem lutcOf_apply (x1 : Vec Ideal S12x8x256 .f32) (b : Fin 2) (m : Fin 12) (c : Fin 256) :
    lutcOf x x1 (ix3 b m c) = code8 (qOf x) (pOf (cbOf x1)) b m c := by
  rw [← codesBlock_apply, lutcOf_def]
  refine View.canon_apply_of_pieces (Val := Elt Ideal) (e := .i8) (fun j : S2x12x256.Idx => codesBlock x (cbOf x1) (j 0) (ix3 (0 : Fin 1) (j 1) (j 2))) _ ?_ (ix3 b m c) ?_
  · intro p hp y
    obtain ⟨i, rfl⟩ := (List.mem_ofFn' _ _).1 hp
    have hy : y = ix3 (0 : Fin 1) (y 1) (y 2) := by
      funext a
      match a with
      | ⟨0, _⟩ => exact Subsingleton.elim (α := Fin 1) _ _
      | ⟨1, _⟩ => rfl
      | ⟨2, _⟩ => rfl
    have he : (lutcPiece x (cbOf x1) ⟨1 - i.val, by omega⟩).1.emb y = (ix3 (⟨1 - i.val, by omega⟩ : Fin 2) (y 1) (y 2) : S2x12x256.Idx) := by
      funext a; refine Fin.ext ?_
      match a with
      | ⟨0, _⟩ => have : (y 0).val < 1 := (y 0).isLt
                  show (1 - i.val) + 1 * (y 0).val = 1 - i.val; omega
      | ⟨1, _⟩ => show 0 + 1 * (y 1).val = (y 1).val; omega
      | ⟨2, _⟩ => show 0 + 1 * (y 2).val = (y 2).val; omega
    rw [he]
    exact congrArg _ hy
  · refine ⟨_, (List.mem_ofFn' _ _).2 ⟨⟨1 - b.val, by omega⟩, rfl⟩, ?_⟩
    show ix3 b m c ∈ (lutcPiece x (cbOf x1) ⟨1 - (1 - b.val), by omega⟩).1.set
    unfold lutcPiece
    rw [Rect.mem_set_unit]
    intro a
    match a with
    | ⟨0, _⟩ => show 1 - (1 - b.val) ≤ b.val ∧ b.val < 1 - (1 - b.val) + 1; omega
    | ⟨1, _⟩ => show 0 ≤ m.val ∧ m.val < 0 + 12; omega
    | ⟨2, _⟩ => show 0 ≤ c.val ∧ c.val < 0 + 256; omega

/-- The stored biases. -/
theorem lutbOf_apply (x1 : Vec Ideal S12x8x256 .f32) (b : Fin 2) (m : Fin 12) :
    lutbOf x x1 (ix2 b m) = bias (qOf x) (pOf (cbOf x1)) b m := by
  have e : biasRow x (cbOf x1) b 12 (ix2 (0 : Fin 8) m) = bias (qOf x) (pOf (cbOf x1)) b m :=
    (biasRow_apply x (cbOf x1) b 0 m 12 le_rfl).trans (if_pos m.isLt)
  rw [← e, lutbOf_def]
  refine View.canon_apply_of_pieces (Val := Elt Ideal) (e := .f32) (fun j : S2x12.Idx => biasRow x (cbOf x1) (j 0) 12 (ix2 (0 : Fin 8) (j 1))) _ ?_ (ix2 b m) ?_
  · intro p hp y
    obtain ⟨i, rfl⟩ := (List.mem_ofFn' _ _).1 hp
    have he : (lutbPiece x (cbOf x1) ⟨1 - i.val, by omega⟩).1.emb y = (ix2 (⟨1 - i.val, by omega⟩ : Fin 2) (y 1) : S2x12.Idx) := by
      funext a; refine Fin.ext ?_
      match a with
      | ⟨0, _⟩ => have : (y 0).val < 1 := (y 0).isLt
                  show (1 - i.val) + 1 * (y 0).val = 1 - i.val; omega
      | ⟨1, _⟩ => show 0 + 1 * (y 1).val = (y 1).val; omega
    rw [he]
    refine congrArg (biasRow x (cbOf x1) ⟨1 - i.val, by omega⟩ 12) (funext fun a => Fin.ext ?_)
    match a with
    | ⟨0, _⟩ => have : (y 0).val < 1 := (y 0).isLt
                show 0 + (y 0).val = 0; omega
    | ⟨1, _⟩ => show 0 + (y 1).val = (y 1).val; omega
  · refine ⟨_, (List.mem_ofFn' _ _).2 ⟨⟨1 - b.val, by omega⟩, rfl⟩, ?_⟩
    show ix2 b m ∈ (lutbPiece x (cbOf x1) ⟨1 - (1 - b.val), by omega⟩).1.set
    unfold lutbPiece
    rw [Rect.mem_set_unit]
    intro a
    match a with
    | ⟨0, _⟩ => show 1 - (1 - b.val) ≤ b.val ∧ b.val < 1 - (1 - b.val) + 1; omega
    | ⟨1, _⟩ => show 0 ≤ m.val ∧ m.val < 0 + 12; omega

/-- The stored scales. -/
theorem lutsOf_apply (x1 : Vec Ideal S12x8x256 .f32) (b : Fin 2) :
    lutsOf x x1 (ix2 (0 : Fin 1) b) = scale (qOf x) (pOf (cbOf x1)) b := by
  rw [← scaleCol_apply x (cbOf x1) b 0 0, lutsOf_def]
  refine View.canon_apply_of_pieces (Val := Elt Ideal) (e := .f32) (fun j : S1x2.Idx => scaleCol x (cbOf x1) (j 1) (ix2 (0 : Fin 8) (0 : Fin 1))) _ ?_ (ix2 (0 : Fin 1) b) ?_
  · intro p hp y
    obtain ⟨i, rfl⟩ := (List.mem_ofFn' _ _).1 hp
    have he : (lutsPiece x (cbOf x1) ⟨1 - i.val, by omega⟩).1.emb y = (ix2 (0 : Fin 1) (⟨1 - i.val, by omega⟩ : Fin 2) : S1x2.Idx) := by
      funext a; refine Fin.ext ?_
      match a with
      | ⟨0, _⟩ => have : (y 0).val < 1 := (y 0).isLt
                  show 0 + 1 * (y 0).val = 0; omega
      | ⟨1, _⟩ => have : (y 1).val < 1 := (y 1).isLt
                  show (1 - i.val) + 1 * (y 1).val = 1 - i.val; omega
    rw [he]
    refine congrArg (scaleCol x (cbOf x1) ⟨1 - i.val, by omega⟩) (funext fun a => Fin.ext ?_)
    match a with
    | ⟨0, _⟩ => have : (y 0).val < 1 := (y 0).isLt
                show 0 + (y 0).val = 0; omega
    | ⟨1, _⟩ => have : (y 1).val < 1 := (y 1).isLt
                show 0 + (y 1).val = 0; omega
  · refine ⟨_, (List.mem_ofFn' _ _).2 ⟨⟨1 - b.val, by omega⟩, rfl⟩, ?_⟩
    show ix2 (0 : Fin 1) b ∈ (lutsPiece x (cbOf x1) ⟨1 - (1 - b.val), by omega⟩).1.set
    unfold lutsPiece
    rw [Rect.mem_set_unit]
    intro a
    match a with
    | ⟨0, _⟩ => show 0 ≤ 0 ∧ 0 < 0 + 1; omega
    | ⟨1, _⟩ => show 1 - (1 - b.val) ≤ b.val ∧ b.val < 1 - (1 - b.val) + 1; omega

end Cert.KernelIdeal.Adc

end
-- ==== Proof.ChunkValue.lean ====
module

public import proofs.«01_k».proof.Proof.ChunkWords
public import proofs.«01_k».proof.Proof.TableValue

@[expose] public section

set_option maxRecDepth 16384

noncomputable section

namespace Cert.KernelIdeal.Adc

open Idealize.ShloMosaic hiding ix0 ix1 ix2 ix3 ix4
open Idealize.ShloMosaic.ValueIdx
open Cert.KernelIdeal Cert.KernelIdeal.Gen Cert.Adc

/-- The centroids of the point in column `n` of a block of codes. -/
def kOf (x2 : Vec Ideal S12x65536 .i8) (n : Fin 65536) (m : Fin 12) : Fin 256 := ⟨BitVec.toNat (w := 8) (x2 (ix2 m n)), BitVec.isLt (w := 8) _⟩

/-- The words of a chunk, from the block of codes. -/
theorem chunkWord_apply (x2 : Vec Ideal S12x65536 .i8) (g : Fin 3) (j : Fin 64) (s : Fin 8) (l : Fin 128) (n : Fin 65536)
    (hn : n.val = 1024 * j.val + 128 * s.val + l.val) :
    chunkWord (k0_pay174 x2) g j (ix2 s l) = word4 fun i => x2 (ix2 (⟨4 * g.val + i.val, by omega⟩ : Fin 12) n) := by
  have h1 : chunkWord (k0_pay174 x2) g j (ix2 s l) = k0_pay174 x2 (ix2 g n) := by
    unfold chunkWord
    rw [shapeCast_apply _ _ _ (ix2 (0 : Fin 1) (⟨128 * s.val + l.val, by omega⟩ : Fin 1024)) (by
      rw [Shape.rowMajor_val_two, Shape.rowMajor_val_two]
      show 0 * 1024 + (128 * s.val + l.val) = s.val * 128 + l.val
      omega)]
    refine congrArg (k0_pay174 x2) (funext fun a => Fin.ext ?_)
    match a with
    | ⟨0, _⟩ => show g.val + 0 = g.val; omega
    | ⟨1, _⟩ => show 1024 * j.val + (128 * s.val + l.val) = n.val; omega
  rw [h1]
  refine eq_word4 _ _ fun q hq => ?_
  unfold k0_pay174
  refine (bitcast_8_32_getLsbD_ix2 (R := 12) (r := 3) (n := 65536) _ bitcasts_S12x65536_w8_S3x65536_w32 g n q hq (⟨4 * g.val + q / 8, by omega⟩ : Fin 12) rfl).trans ?_
  refine congrArg (fun v : BitVec 8 => v.getLsbD (q % 8)) ?_
  exact shapeCast_apply _ _ _ _ rfl

/-- A row of the table, entry by entry. -/
theorem rowOf_apply (T : Vec Ideal S12x8x128 .i32) (r : Fin 12) (s : Fin 8) (l : Fin 128) : rowOf T r (ix3 (0 : Fin 1) s l) = T (ix3 r s l) := rfl
/-- A row of the scales, entry by entry. -/
theorem srowOf_apply (T : Vec Ideal S4x8x128 .f32) (r : Fin 4) (s : Fin 8) (l : Fin 128) : srowOf T r (ix3 (0 : Fin 1) s l) = T (ix3 r s l) := rfl

variable (x : Vec Ideal S2x96 .bf16) (x1 : Vec Ideal S12x8x256 .f32) (x2 : Vec Ideal S12x65536 .i8)

/-- The sums of one group, as a number: the codes of four subspaces. -/
theorem groupSums_toNat (b : Fin 2) (g : Fin 3) (j : Fin 64) (s : Fin 8) (l : Fin 128) (n : Fin 65536)
    (hn : n.val = 1024 * j.val + 128 * s.val + l.val) (r r' : Fin 12) (hr : r.val = 4 * g.val + 2 * b.val) (hr' : r'.val = 4 * g.val + 2 * b.val + 1)
    (f : Fin 12 → ℕ) (hf : ∀ m, f m = (code8 (qOf x) (pOf (cbOf x1)) b m (kOf x2 n m)).toNat) :
    (pairSums (groupBytes (rowOf (tabOf x x1) r) (rowOf (tabOf x x1) r') (chunkWord (k0_pay174 x2) g j)) (ix2 s l)).toNat
      = (f ⟨4 * g.val, by omega⟩ + f ⟨4 * g.val + 1, by omega⟩) + 65536 * (f ⟨4 * g.val + 2, by omega⟩ + f ⟨4 * g.val + 3, by omega⟩) := by
  rw [pairSums_toNat _ _ s l (groupBytes_apply _ _ _ (fun i c => code8 (qOf x) (pOf (cbOf x1)) b ⟨4 * g.val + i.val, by omega⟩ c)
    (fun i => x2 (ix2 (⟨4 * g.val + i.val, by omega⟩ : Fin 12) n)) s l
    (fun l' => (rowOf_apply _ r s l').trans (tab_low x x1 g b r hr s l')) (fun l' => (rowOf_apply _ r' s l').trans (tab_flip x x1 g b r' hr' s l')) (chunkWord_apply x2 g j s l n hn))]
  rw [hf, hf, hf, hf]
  rfl

/-- The integer distances of a chunk are the integer distances of its points. -/
theorem chunkTotal_apply (b : Fin 2) (j : Fin 64) (s : Fin 8) (l : Fin 128) (n : Fin 65536)
    (hn : n.val = 1024 * j.val + 128 * s.val + l.val) :
    chunkTotal (rowOf (tabOf x x1)) (k0_pay174 x2) b j (ix2 s l) = dint (qOf x) (pOf (cbOf x1)) b (kOf x2 n) := by
  obtain ⟨f, hf⟩ : ∃ f : Fin 12 → ℕ, ∀ m, f m = (code8 (qOf x) (pOf (cbOf x1)) b m (kOf x2 n m)).toNat := ⟨_, fun _ => rfl⟩
  have hlt : ∀ m, f m < 256 := fun m => by rw [hf]; exact BitVec.isLt _
  have hc : ∀ m, (code (qOf x) (pOf (cbOf x1)) b m (kOf x2 n m)).toNat = f m := fun m => by
    rw [hf, code8, BitVec.toNat_setWidth]
    have := code_lt (qOf x) (pOf (cbOf x1)) b m (kOf x2 n m)
    omega
  have h0 := groupSums_toNat x x1 x2 b 0 j s l n hn ⟨2 * b.val, by omega⟩ ⟨2 * b.val + 1, by omega⟩ (by show 2 * b.val = 4 * 0 + 2 * b.val; omega) (by show 2 * b.val + 1 = 4 * 0 + 2 * b.val + 1; omega) f hf
  have h1 := groupSums_toNat x x1 x2 b 1 j s l n hn ⟨4 + 2 * b.val, by omega⟩ ⟨4 + 2 * b.val + 1, by omega⟩ rfl rfl f hf
  have h2 := groupSums_toNat x x1 x2 b 2 j s l n hn ⟨8 + 2 * b.val, by omega⟩ ⟨8 + 2 * b.val + 1, by omega⟩ rfl rfl f hf
  unfold dint
  simp only [hc]
  rw [sum_twelve]
  show ((pairSums (groupBytes (rowOf (tabOf x x1) ⟨2 * b.val, _⟩) (rowOf (tabOf x x1) ⟨2 * b.val + 1, _⟩) (chunkWord (k0_pay174 x2) 0 j)) (ix2 s l)
      + pairSums (groupBytes (rowOf (tabOf x x1) ⟨4 + 2 * b.val, _⟩) (rowOf (tabOf x x1) ⟨4 + 2 * b.val + 1, _⟩) (chunkWord (k0_pay174 x2) 1 j)) (ix2 s l)
      + pairSums (groupBytes (rowOf (tabOf x x1) ⟨8 + 2 * b.val, _⟩) (rowOf (tabOf x x1) ⟨8 + 2 * b.val + 1, _⟩) (chunkWord (k0_pay174 x2) 2 j)) (ix2 s l)) &&& 65535#32)
    + (pairSums (groupBytes (rowOf (tabOf x x1) ⟨2 * b.val, _⟩) (rowOf (tabOf x x1) ⟨2 * b.val + 1, _⟩) (chunkWord (k0_pay174 x2) 0 j)) (ix2 s l)
      + pairSums (groupBytes (rowOf (tabOf x x1) ⟨4 + 2 * b.val, _⟩) (rowOf (tabOf x x1) ⟨4 + 2 * b.val + 1, _⟩) (chunkWord (k0_pay174 x2) 1 j)) (ix2 s l)
      + pairSums (groupBytes (rowOf (tabOf x x1) ⟨8 + 2 * b.val, _⟩) (rowOf (tabOf x x1) ⟨8 + 2 * b.val + 1, _⟩) (chunkWord (k0_pay174 x2) 2 j)) (ix2 s l)).sshiftRight 16 = _
  generalize pairSums (groupBytes (rowOf (tabOf x x1) ⟨2 * b.val, _⟩) (rowOf (tabOf x x1) ⟨2 * b.val + 1, _⟩) (chunkWord (k0_pay174 x2) 0 j)) (ix2 s l) = a0 at h0 ⊢
  generalize pairSums (groupBytes (rowOf (tabOf x x1) ⟨4 + 2 * b.val, _⟩) (rowOf (tabOf x x1) ⟨4 + 2 * b.val + 1, _⟩) (chunkWord (k0_pay174 x2) 1 j)) (ix2 s l) = a1 at h1 ⊢
  generalize pairSums (groupBytes (rowOf (tabOf x x1) ⟨8 + 2 * b.val, _⟩) (rowOf (tabOf x x1) ⟨8 + 2 * b.val + 1, _⟩) (chunkWord (k0_pay174 x2) 2 j)) (ix2 s l) = a2 at h2 ⊢
  replace h0 : a0.toNat = (f 0 + f 1) + 65536 * (f 2 + f 3) := h0
  replace h1 : a1.toNat = (f 4 + f 5) + 65536 * (f 6 + f 7) := h1
  replace h2 : a2.toNat = (f 8 + f 9) + 65536 * (f 10 + f 11) := h2
  have l0 := hlt 0; have l1 := hlt 1; have l2 := hlt 2; have l3 := hlt 3; have l4 := hlt 4; have l5 := hlt 5
  have l6 := hlt 6; have l7 := hlt 7; have l8 := hlt 8; have l9 := hlt 9; have l10 := hlt 10; have l11 := hlt 11
  have hs : (a0 + a1 + a2).toNat = a0.toNat + a1.toNat + a2.toNat := by
    rw [BitVec.toNat_add, BitVec.toNat_add]; omega
  refine BitVec.eq_of_toNat_eq ?_
  rw [halves_toNat _ (by rw [hs]; omega), hs, BitVec.toNat_ofNat]
  omega

/-- The distances of a chunk are the distances of its points. -/
theorem chunkDist_apply (b : Fin 2) (j : Fin 64) (s : Fin 8) (l : Fin 128) (n : Fin 65536)
    (hn : n.val = 1024 * j.val + 128 * s.val + l.val) :
    chunkDist (rowOf (tabOf x x1)) (srowOf (sbOf x x1)) (k0_pay174 x2) b j (ix2 s l) = dist (qOf x) (pOf (cbOf x1)) b (kOf x2 n) := by
  have e1 : shapeCast S8x128 (srowOf (sbOf x x1) ⟨2 * b.val, by omega⟩) shapeCasts_S1x8x128_S8x128 (ix2 s l) = scale (qOf x) (pOf (cbOf x1)) b :=
    ((shapeCast_1ab_ab_apply _ _ _ _).trans (srowOf_apply _ _ s l)).trans (sb_scale x x1 b _ rfl s l)
  have e2 : shapeCast S8x128 (srowOf (sbOf x x1) ⟨2 * b.val + 1, by omega⟩) shapeCasts_S1x8x128_S8x128 (ix2 s l) = ∑ m : Fin 12, bias (qOf x) (pOf (cbOf x1)) b m :=
    ((shapeCast_1ab_ab_apply _ _ _ _).trans (srowOf_apply _ _ s l)).trans (sb_bias x x1 b _ rfl s l)
  show shapeCast S8x128 (srowOf (sbOf x x1) ⟨2 * b.val, by omega⟩) shapeCasts_S1x8x128_S8x128 (ix2 s l)
      * (((chunkTotal (rowOf (tabOf x x1)) (k0_pay174 x2) b j (ix2 s l)).toInt : ℝ) : EReal)
      + shapeCast S8x128 (srowOf (sbOf x x1) ⟨2 * b.val + 1, by omega⟩) shapeCasts_S1x8x128_S8x128 (ix2 s l) = _
  rw [e1, e2, chunkTotal_apply x x1 x2 b j s l n hn]
  rfl

/-- Eight rows of 128 laid in one row of 1024. -/
theorem flat_apply {α : Type} (v : S8x128.Idx → α) (c : Fin 1024) :
    shapeCast S1x1024 v shapeCasts_S8x128_S1x1024 (ix2 (0 : Fin 1) c) = v (ix2 (⟨c.val / 128, by omega⟩ : Fin 8) (⟨c.val % 128, by omega⟩ : Fin 128)) := by
  refine shapeCast_apply _ _ _ _ ?_
  rw [Shape.rowMajor_val_two, Shape.rowMajor_val_two]
  show c.val / 128 * 128 + c.val % 128 = 0 * 1024 + c.val
  omega

/-- The integer distances of a block. -/
theorem intOf_apply (b : Fin 2) (n : Fin 65536) :
    intOf x2 (tabOf x x1) (ix2 b n) = dint (qOf x) (pOf (cbOf x1)) b (kOf x2 n) := by
  unfold intOf
  refine View.canon_apply_of_pieces (Val := Elt Ideal) (e := .i32) (fun y : S2x65536.Idx => dint (qOf x) (pOf (cbOf x1)) (y 0) (kOf x2 (y 1))) _ ?_ (ix2 b n) ?_
  · intro p hp y
    obtain ⟨i, rfl⟩ := (List.mem_ofFn' _ _).1 hp
    have hb : 1 - i.val % 2 < 2 := by omega
    have hj : 63 - i.val / 2 < 64 := by omega
    have hc : (y 1).val < 1024 := (y 1).isLt
    have hy : y = ix2 (0 : Fin 1) (y 1) := by
      funext a
      match a with
      | ⟨0, _⟩ => exact Subsingleton.elim (α := Fin 1) _ _
      | ⟨1, _⟩ => rfl
    have he : (intPiece (rowOf (tabOf x x1)) (k0_pay174 x2) ⟨1 - i.val % 2, hb⟩ ⟨63 - i.val / 2, hj⟩).1.emb y
        = (ix2 (⟨1 - i.val % 2, hb⟩ : Fin 2) (⟨1024 * (63 - i.val / 2) + (y 1).val, by omega⟩ : Fin 65536) : S2x65536.Idx) := by
      funext a; refine Fin.ext ?_
      match a with
      | ⟨0, _⟩ => have : (y 0).val < 1 := (y 0).isLt
                  show (1 - i.val % 2) + 1 * (y 0).val = 1 - i.val % 2; omega
      | ⟨1, _⟩ => show 1024 * (63 - i.val / 2) + 1 * (y 1).val = 1024 * (63 - i.val / 2) + (y 1).val; omega
    rw [he]
    refine (congrArg _ hy).trans ?_
    refine (flat_apply (chunkTotal (rowOf (tabOf x x1)) (k0_pay174 x2) ⟨1 - i.val % 2, hb⟩ ⟨63 - i.val / 2, hj⟩) (y 1)).trans ?_
    exact chunkTotal_apply x x1 x2 _ _ _ _ _ (by
      show 1024 * (63 - i.val / 2) + (y 1).val = 1024 * (63 - i.val / 2) + 128 * ((y 1).val / 128) + (y 1).val % 128
      omega)
  · have h1 : n.val / 1024 < 64 := by omega
    refine ⟨_, (List.mem_ofFn' _ _).2 ⟨⟨2 * (63 - n.val / 1024) + (1 - b.val), by omega⟩, rfl⟩, ?_⟩
    show ix2 b n ∈ (intPiece (rowOf (tabOf x x1)) (k0_pay174 x2) ⟨1 - (2 * (63 - n.val / 1024) + (1 - b.val)) % 2, by omega⟩
      ⟨63 - (2 * (63 - n.val / 1024) + (1 - b.val)) / 2, by omega⟩).1.set
    unfold intPiece
    rw [Rect.mem_set_unit]
    intro a
    match a with
    | ⟨0, _⟩ =>
      show 1 - (2 * (63 - n.val / 1024) + (1 - b.val)) % 2 ≤ b.val ∧ b.val < 1 - (2 * (63 - n.val / 1024) + (1 - b.val)) % 2 + 1
      omega
    | ⟨1, _⟩ =>
      show 1024 * (63 - (2 * (63 - n.val / 1024) + (1 - b.val)) / 2) ≤ n.val ∧ n.val < 1024 * (63 - (2 * (63 - n.val / 1024) + (1 - b.val)) / 2) + 1024
      omega

/-- Two rows woven: the first is the even row, the second the odd. -/
theorem weave_apply {α : Type} (u : Fin 2 → S1x1024.Idx → α) (b : Fin 2) (c : Fin 1024) :
    interleaveRows S2x1024 (u 0) (u 1) bitcasts_S2x1024_w16_S1x1024_w32 (ix2 b c) = u b (ix2 (0 : Fin 1) c) := by
  rw [interleaveRows_apply]
  have hrow : S2x1024.row (ix2 b c) = b.val := rfl
  match b with
  | ⟨0, _⟩ =>
    refine (if_pos (by rfl)).trans (congrArg (u 0) (funext fun a => ?_))
    match a with
    | ⟨0, _⟩ => exact Subsingleton.elim (α := Fin 1) _ _
    | ⟨1, _⟩ => rfl
  | ⟨1, _⟩ =>
    refine (if_neg (by show ¬ 1 % 2 = 0; decide)).trans (congrArg (u 1) (funext fun a => ?_))
    match a with
    | ⟨0, _⟩ => exact Subsingleton.elim (α := Fin 1) _ _
    | ⟨1, _⟩ => rfl

/-- The distances of a block. -/
theorem distOf_apply (b : Fin 2) (n : Fin 65536) :
    distOf x2 (tabOf x x1) (sbOf x x1) (ix2 b n) = dist (qOf x) (pOf (cbOf x1)) b (kOf x2 n) := by
  unfold distOf
  refine View.canon_apply_of_pieces (Val := Elt Ideal) (e := .bf16) (fun y : S2x65536.Idx => dist (qOf x) (pOf (cbOf x1)) (y 0) (kOf x2 (y 1))) _ ?_ (ix2 b n) ?_
  · intro p hp y
    obtain ⟨i, rfl⟩ := (List.mem_ofFn' _ _).1 hp
    have hj : 63 - i.val < 64 := by omega
    have hc : (y 1).val < 1024 := (y 1).isLt
    have hy : y = ix2 (y 0) (y 1) := by
      funext a
      match a with
      | ⟨0, _⟩ => rfl
      | ⟨1, _⟩ => rfl
    have he : (distPiece (rowOf (tabOf x x1)) (srowOf (sbOf x x1)) (k0_pay174 x2) ⟨63 - i.val, hj⟩).1.emb y
        = (ix2 (y 0) (⟨1024 * (63 - i.val) + (y 1).val, by omega⟩ : Fin 65536) : S2x65536.Idx) := by
      funext a; refine Fin.ext ?_
      match a with
      | ⟨0, _⟩ => show 0 + 1 * (y 0).val = (y 0).val; omega
      | ⟨1, _⟩ => show 1024 * (63 - i.val) + 1 * (y 1).val = 1024 * (63 - i.val) + (y 1).val; omega
    rw [he]
    refine (congrArg _ hy).trans ?_
    refine (weave_apply (fun b => shapeCast S1x1024 (chunkDist (rowOf (tabOf x x1)) (srowOf (sbOf x x1)) (k0_pay174 x2) b ⟨63 - i.val, hj⟩) shapeCasts_S8x128_S1x1024) (y 0) (y 1)).trans ?_
    refine (flat_apply (chunkDist (rowOf (tabOf x x1)) (srowOf (sbOf x x1)) (k0_pay174 x2) (y 0) ⟨63 - i.val, hj⟩) (y 1)).trans ?_
    exact chunkDist_apply x x1 x2 _ _ _ _ _ (by
      show 1024 * (63 - i.val) + (y 1).val = 1024 * (63 - i.val) + 128 * ((y 1).val / 128) + (y 1).val % 128
      omega)
  · have h1 : n.val / 1024 < 64 := by omega
    refine ⟨_, (List.mem_ofFn' _ _).2 ⟨⟨63 - n.val / 1024, by omega⟩, rfl⟩, ?_⟩
    show ix2 b n ∈ (distPiece (rowOf (tabOf x x1)) (srowOf (sbOf x x1)) (k0_pay174 x2) ⟨63 - (63 - n.val / 1024), by omega⟩).1.set
    unfold distPiece
    rw [Rect.mem_set_unit]
    intro a
    match a with
    | ⟨0, _⟩ => show 0 ≤ b.val ∧ b.val < 0 + 2; omega
    | ⟨1, _⟩ => show 1024 * (63 - (63 - n.val / 1024)) ≤ n.val ∧ n.val < 1024 * (63 - (63 - n.val / 1024)) + 1024; omega

end Cert.KernelIdeal.Adc

end
-- ==== Proof.ArrayValue.lean ====
module

public import proofs.«01_k».proof.Proof.Launch
public import proofs.«01_k».proof.Proof.ChunkValue
public import Idealize.ShloMosaic.Lib.Pipeline.ValueKit.Geometry

@[expose] public section

set_option maxRecDepth 16384

noncomputable section

namespace Cert.KernelIdeal.Adc

open Idealize.ShloMosaic hiding ix0 ix1 ix2 ix3 ix4
open Idealize.ShloMosaic.ValueIdx Idealize.ShloMosaic.TcCoe
open Idealize.SL Idealize.SL.RA Idealize.SL.Sem
open Idealize.ShloMosaic.Pipeline (Dat Cfg Window)
open Cert.KernelIdeal Cert.KernelIdeal.Gen Cert.Adc

/-- The centroids as the codebooks are given. -/
def pIn (cb : Vec Ideal S12x256x8 .f32) : Fin 12 → Fin 256 → Fin 8 → EReal := fun m c s => cb (ix3 m c s)
/-- The centroids of point `n`, as the codes are given. -/
def kIn (k : IVec S4194304x12 8) (n : Fin 4194304) (m : Fin 12) : Fin 256 := ⟨(k (ix2 n m)).toNat, (k (ix2 n m)).isLt⟩

/-- The five results, of the arguments. -/
def distArr (x : Vec Ideal S2x96 .bf16) (cb : Vec Ideal S12x256x8 .f32) (k : IVec S4194304x12 8) : Vec Ideal S2x4194304 .bf16 :=
  fun i => dist (qOf x) (pIn cb) (i 0) (kIn k (i 1))
def intArr (x : Vec Ideal S2x96 .bf16) (cb : Vec Ideal S12x256x8 .f32) (k : IVec S4194304x12 8) : Vec Ideal S2x4194304 .i32 :=
  fun i => dint (qOf x) (pIn cb) (i 0) (kIn k (i 1))
def codeArr (x : Vec Ideal S2x96 .bf16) (cb : Vec Ideal S12x256x8 .f32) : Vec Ideal S2x12x256 .i8 :=
  fun i => code8 (qOf x) (pIn cb) (i 0) (i 1) (i 2)
def biasArr (x : Vec Ideal S2x96 .bf16) (cb : Vec Ideal S12x256x8 .f32) : Vec Ideal S2x12 .f32 :=
  fun i => bias (qOf x) (pIn cb) (i 0) (i 1)
def scaleArr (x : Vec Ideal S2x96 .bf16) (cb : Vec Ideal S12x256x8 .f32) : Vec Ideal S1x2 .f32 :=
  fun i => scale (qOf x) (pIn cb) (i 1)

variable (m : (ℓ : Loc nD τ sig) → Buf (Elt Ideal) ℓ) (ρ : Dev nD → PrngReg) (c : Dev nD)

/-- The arguments. -/
def A0 : Vec Ideal S2x96 .bf16 := m ((c.tc : Thread nD τ).loc main_arg0)
def A1 : Vec Ideal S12x256x8 .f32 := m ((c.tc : Thread nD τ).loc main_arg1)
def A2 : IVec S4194304x12 8 := m ((c.tc : Thread nD τ).loc main_arg2)

/-- The transposed codebooks and the transposed codes, as the region finds them. -/
theorem V_main_v0 : V m c main_v0 = transpose S12x8x256 [0, 2, 1] (A1 m c) transposes_S12x256x8_S12x8x256_0_2_1 := by
  entry_read
  rfl
/-- The transposed codes, as the region finds them. -/
theorem V_main_v1 : V m c main_v1 = transpose S12x4194304 [1, 0] (A2 m c) transposes_S4194304x12_S12x4194304_1_0 := by
  entry_read
  rfl

/-- Point `t` reads block `t` of the codes. -/
theorem index2 : ∀ t : Fin cfg0.N, win0_2.index t = ![0, t.val] := (by decide +kernel : ∀ t : Fin grid0.N, win0_2.index t = ![0, t.val])
/-- Point `t` writes block `t` of the distances. -/
theorem index3 : ∀ t : Fin cfg0.N, win0_3.index t = ![0, t.val] := (by decide +kernel : ∀ t : Fin grid0.N, win0_3.index t = ![0, t.val])
/-- Point `t` writes block `t` of the integer distances. -/
theorem index4 : ∀ t : Fin cfg0.N, win0_4.index t = ![0, t.val] := (by decide +kernel : ∀ t : Fin grid0.N, win0_4.index t = ![0, t.val])

/-- The queries reach the body as they are given. -/
theorem X0_eq : X0 m c = A0 m c := by
  funext y
  show V m c main_arg0 ((win0_0.blk pt0).view.emb y) = _
  rw [V_main_arg0]
  refine congrArg (A0 m c) (funext fun a => Fin.ext ?_)
  match a with
  | ⟨0, _⟩ => show 0 * 2 + 1 * (y 0).val = (y 0).val; omega
  | ⟨1, _⟩ => show 0 * 96 + 1 * (y 1).val = (y 1).val; omega

/-- The codebooks reach the body with centroid and coordinate exchanged. -/
theorem X1_apply (j : Fin 12) (s : Fin 8) (k : Fin 256) : X1 m c (ix3 j s k) = A1 m c (ix3 j k s) := by
  have h : X1 m c (ix3 j s k) = V m c main_v0 (ix3 j s k) := by
    show V m c main_v0 ((win0_1.blk pt0).view.emb (ix3 j s k)) = _
    refine congrArg (V m c main_v0) (funext fun a => Fin.ext ?_)
    match a with
    | ⟨0, _⟩ => show 0 * 12 + 1 * j.val = j.val; omega
    | ⟨1, _⟩ => show 0 * 8 + 1 * s.val = s.val; omega
    | ⟨2, _⟩ => show 0 * 256 + 1 * k.val = k.val; omega
  rw [h, V_main_v0]
  exact transpose_ix3_021_apply _ _ _ _ _

/-- Column `n` of block `t` of the codes is row `65536 t + n` of the codes as given. -/
theorem block_apply (t : Fin cfg0.N) (j : Fin 12) (n : Fin 65536) (N : Fin 4194304) (hN : N.val = 65536 * t.val + n.val) :
    (iblk m c 2 t : Vec Ideal S12x65536 .i8) (ix2 j n) = A2 m c (ix2 N j) := by
  have h : (iblk m c 2 t : Vec Ideal S12x65536 .i8) (ix2 j n) = V m c main_v1 (ix2 j N) := by
    show V m c main_v1 ((win0_2.blk t).view.emb (ix2 j n)) = _
    refine congrArg (V m c main_v1) (funext fun a => Fin.ext ?_)
    match a with
    | ⟨0, _⟩ =>
      show win0_2.index t 0 * 12 + 1 * j.val = j.val
      rw [index2]; show 0 * 12 + 1 * j.val = j.val; omega
    | ⟨1, _⟩ =>
      show win0_2.index t 1 * 65536 + 1 * n.val = N.val
      rw [index2]; show t.val * 65536 + 1 * n.val = N.val; omega
  rw [h, V_main_v1]
  exact transpose_ix2_apply _ _ _ _

/-- The centroids the body computes with are those given. -/
theorem p_eq : pOf (cbOf (X1 m c)) = pIn (A1 m c) := by
  funext j k s
  exact X1_apply m c j s k

/-- The centroids of the point in column `n` of block `t` are those of point `65536 t + n`. -/
theorem k_eq (t : Fin cfg0.N) (n : Fin 65536) (N : Fin 4194304) (hN : N.val = 65536 * t.val + n.val) :
    kOf (iblk m c 2 t) n = kIn (A2 m c) N := by
  funext j
  exact Fin.ext (congrArg (BitVec.toNat (w := 8)) (block_apply m c t j n N hN))

/-- The grid has 64 points. -/
theorem tlt (t : Fin cfg0.N) : t.val < 64 := Nat.lt_of_lt_of_eq t.isLt N_0

/-- The distances after the launch. -/
theorem final3 : (dats m 0 c).arrAt 3 cfg0.N = distArr (A0 m c) (A1 m c) (A2 m c) := by
  refine (dats m 0 c).arrAt_eq_of_covers 3 _ (by decide +kernel) fun t hf y => ?_
  have ht := tlt t
  have hb : (y 0).val < 2 := (y 0).isLt
  have hc : (y 1).val < 65536 := (y 1).isLt
  have hy : y = (ix2 (⟨(y 0).val, hb⟩ : Fin 2) (⟨(y 1).val, hc⟩ : Fin 65536) : S2x65536.Idx) := by
    funext a
    match a with
    | ⟨0, _⟩ => rfl
    | ⟨1, _⟩ => rfl
  have he : (win0_3.blk t).view.emb y = (ix2 (⟨(y 0).val, hb⟩ : Fin 2) (⟨65536 * t.val + (y 1).val, by omega⟩ : Fin 4194304) : S2x4194304.Idx) := by
    funext a; refine Fin.ext ?_
    match a with
    | ⟨0, _⟩ =>
      show win0_3.index t 0 * 2 + 1 * (y 0).val = (y 0).val
      rw [index3]; show 0 * 2 + 1 * (y 0).val = (y 0).val; omega
    | ⟨1, _⟩ =>
      show win0_3.index t 1 * 65536 + 1 * (y 1).val = 65536 * t.val + (y 1).val
      rw [index3]; show t.val * 65536 + 1 * (y 1).val = 65536 * t.val + (y 1).val; omega
  show (dats m 0 c).after 3 t y = distArr (A0 m c) (A1 m c) (A2 m c) ((win0_3.blk t).view.emb y)
  rw [after3, he]
  refine (congrArg (distOf (iblk m c 2 t) (TT m c) (SS m c)) hy).trans ?_
  refine (distOf_apply (X0 m c) (X1 m c) (iblk m c 2 t) _ _).trans ?_
  rw [X0_eq, p_eq, k_eq m c t ⟨(y 1).val, hc⟩ (⟨65536 * t.val + (y 1).val, by omega⟩ : Fin 4194304) rfl]
  rfl

/-- The integer distances after the launch. -/
theorem final4 : (dats m 0 c).arrAt 4 cfg0.N = intArr (A0 m c) (A1 m c) (A2 m c) := by
  refine (dats m 0 c).arrAt_eq_of_covers 4 _ (by decide +kernel) fun t hf y => ?_
  have ht := tlt t
  have hb : (y 0).val < 2 := (y 0).isLt
  have hc : (y 1).val < 65536 := (y 1).isLt
  have hy : y = (ix2 (⟨(y 0).val, hb⟩ : Fin 2) (⟨(y 1).val, hc⟩ : Fin 65536) : S2x65536.Idx) := by
    funext a
    match a with
    | ⟨0, _⟩ => rfl
    | ⟨1, _⟩ => rfl
  have he : (win0_4.blk t).view.emb y = (ix2 (⟨(y 0).val, hb⟩ : Fin 2) (⟨65536 * t.val + (y 1).val, by omega⟩ : Fin 4194304) : S2x4194304.Idx) := by
    funext a; refine Fin.ext ?_
    match a with
    | ⟨0, _⟩ =>
      show win0_4.index t 0 * 2 + 1 * (y 0).val = (y 0).val
      rw [index4]; show 0 * 2 + 1 * (y 0).val = (y 0).val; omega
    | ⟨1, _⟩ =>
      show win0_4.index t 1 * 65536 + 1 * (y 1).val = 65536 * t.val + (y 1).val
      rw [index4]; show t.val * 65536 + 1 * (y 1).val = 65536 * t.val + (y 1).val; omega
  show (dats m 0 c).after 4 t y = intArr (A0 m c) (A1 m c) (A2 m c) ((win0_4.blk t).view.emb y)
  rw [after4, he]
  refine (congrArg (intOf (iblk m c 2 t) (TT m c)) hy).trans ?_
  refine (intOf_apply (X0 m c) (X1 m c) (iblk m c 2 t) _ _).trans ?_
  rw [X0_eq, p_eq, k_eq m c t ⟨(y 1).val, hc⟩ (⟨65536 * t.val + (y 1).val, by omega⟩ : Fin 4194304) rfl]
  rfl

/-- The codes of the table after the launch. -/
theorem final5 : (dats m 0 c).arrAt 5 cfg0.N = codeArr (A0 m c) (A1 m c) := by
  refine (dats m 0 c).arrAt_eq_of_covers 5 _ (by decide +kernel) fun t hf y => ?_
  have he : (win0_5.blk t).view.emb y = (ix3 (⟨(y 0).val, (y 0).isLt⟩ : Fin 2) (⟨(y 1).val, (y 1).isLt⟩ : Fin 12) (⟨(y 2).val, (y 2).isLt⟩ : Fin 256) : S2x12x256.Idx) := by
    funext a; refine Fin.ext ?_
    match a with
    | ⟨0, _⟩ => show 0 * 2 + 1 * (y 0).val = (y 0).val; omega
    | ⟨1, _⟩ => show 0 * 12 + 1 * (y 1).val = (y 1).val; omega
    | ⟨2, _⟩ => show 0 * 256 + 1 * (y 2).val = (y 2).val; omega
  have hy : y = (ix3 (⟨(y 0).val, (y 0).isLt⟩ : Fin 2) (⟨(y 1).val, (y 1).isLt⟩ : Fin 12) (⟨(y 2).val, (y 2).isLt⟩ : Fin 256) : S2x12x256.Idx) := by
    funext a
    match a with
    | ⟨0, _⟩ => rfl
    | ⟨1, _⟩ => rfl
    | ⟨2, _⟩ => rfl
  show (dats m 0 c).after 5 t y = codeArr (A0 m c) (A1 m c) ((win0_5.blk t).view.emb y)
  rw [after5, he]
  refine (congrArg (lutcOf (X0 m c) (X1 m c)) hy).trans ?_
  refine (lutcOf_apply (X0 m c) (X1 m c) _ _ _).trans ?_
  rw [X0_eq, p_eq]
  rfl

/-- The least distances after the launch. -/
theorem final6 : (dats m 0 c).arrAt 6 cfg0.N = biasArr (A0 m c) (A1 m c) := by
  refine (dats m 0 c).arrAt_eq_of_covers 6 _ (by decide +kernel) fun t hf y => ?_
  have he : (win0_6.blk t).view.emb y = (ix2 (⟨(y 0).val, (y 0).isLt⟩ : Fin 2) (⟨(y 1).val, (y 1).isLt⟩ : Fin 12) : S2x12.Idx) := by
    funext a; refine Fin.ext ?_
    match a with
    | ⟨0, _⟩ => show 0 * 2 + 1 * (y 0).val = (y 0).val; omega
    | ⟨1, _⟩ => show 0 * 12 + 1 * (y 1).val = (y 1).val; omega
  have hy : y = (ix2 (⟨(y 0).val, (y 0).isLt⟩ : Fin 2) (⟨(y 1).val, (y 1).isLt⟩ : Fin 12) : S2x12.Idx) := by
    funext a
    match a with
    | ⟨0, _⟩ => rfl
    | ⟨1, _⟩ => rfl
  show (dats m 0 c).after 6 t y = biasArr (A0 m c) (A1 m c) ((win0_6.blk t).view.emb y)
  rw [after6, he]
  refine (congrArg (lutbOf (X0 m c) (X1 m c)) hy).trans ?_
  refine (lutbOf_apply (X0 m c) (X1 m c) _ _).trans ?_
  rw [X0_eq, p_eq]
  rfl

/-- The scales after the launch. -/
theorem final7 : (dats m 0 c).arrAt 7 cfg0.N = scaleArr (A0 m c) (A1 m c) := by
  refine (dats m 0 c).arrAt_eq_of_covers 7 _ (by decide +kernel) fun t hf y => ?_
  have h0 : (y 0).val < 1 := (y 0).isLt
  have he : (win0_7.blk t).view.emb y = (ix2 (0 : Fin 1) (⟨(y 1).val, (y 1).isLt⟩ : Fin 2) : S1x2.Idx) := by
    funext a; refine Fin.ext ?_
    match a with
    | ⟨0, _⟩ => show 0 * 1 + 1 * (y 0).val = 0; omega
    | ⟨1, _⟩ => show 0 * 2 + 1 * (y 1).val = (y 1).val; omega
  have hy : y = (ix2 (0 : Fin 1) (⟨(y 1).val, (y 1).isLt⟩ : Fin 2) : S1x2.Idx) := by
    funext a
    match a with
    | ⟨0, _⟩ => exact Fin.ext (by show (y 0).val = 0; omega)
    | ⟨1, _⟩ => rfl
  show (dats m 0 c).after 7 t y = scaleArr (A0 m c) (A1 m c) ((win0_7.blk t).view.emb y)
  rw [after7, he]
  refine (congrArg (lutsOf (X0 m c) (X1 m c)) hy).trans ?_
  refine (lutsOf_apply (X0 m c) (X1 m c) _).trans ?_
  rw [X0_eq, p_eq]
  rfl

/-- Every execution ends with the five results at the stated functions of the arguments, and the arguments unchanged. -/
theorem run : θ_run defs (onTc (τ := τ) (main (F := Ideal))) ⟨m, fun _ => 0, ρ⟩ (fun r => ∀ c : Dev nD,
      r.2.mem ((c.tc : Thread nD τ).loc main_v2_0) = distArr (A0 m c) (A1 m c) (A2 m c)
      ∧ r.2.mem ((c.tc : Thread nD τ).loc main_v2_1) = intArr (A0 m c) (A1 m c) (A2 m c)
      ∧ r.2.mem ((c.tc : Thread nD τ).loc main_v2_2) = codeArr (A0 m c) (A1 m c)
      ∧ r.2.mem ((c.tc : Thread nD τ).loc main_v2_4) = scaleArr (A0 m c) (A1 m c)
      ∧ r.2.mem ((c.tc : Thread nD τ).loc main_v2_3) = biasArr (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1.1 c).1 3).trans (final3 m c), ((h.1.1 c).1 4).trans (final4 m c),
      ((h.1.1 c).1 5).trans (final5 m c), ((h.1.1 c).1 7).trans (final7 m c), ((h.1.1 c).1 6).trans (final6 m c), h.2.1 c⟩)
    (θ_run_and (run_main m ρ) (frame m ρ))

end Cert.KernelIdeal.Adc

end
-- ==== Proof.RefValue.lean ====
module

public import proofs.«01_k».proof.Proof.Gen.ReferenceIdeal.Run
public import proofs.«01_k».proof.Proof.Spec
public import Idealize.ShloMosaic.Lib.ValueLayoutCasts
public import Idealize.ShloMosaic.Lib.Pointwise
public import Idealize.ShloMosaic.Lib.Pointwise.IndexBridge

@[expose] public section

set_option maxRecDepth 16384

noncomputable section

namespace Cert.ReferenceIdeal.Adc

open Idealize.ShloMosaic hiding ix0 ix1 ix2 ix3 ix4
open Idealize.ShloMosaic.ValueIdx
open Cert.ReferenceIdeal Cert.ReferenceIdeal.Gen Cert.Adc

variable (x : Vec Ideal S2x96 .bf16) (cb : Vec Ideal S12x256x8 .f32) (k : IVec S4194304x12 8)

/-- Coordinate `s` of subvector `m` of query `b`, and of centroid `c`. -/
def qRef : Fin 2 → Fin 12 → Fin 8 → EReal := fun b m s => x (ix2 b (⟨8 * m.val + s.val, by omega⟩ : Fin 96))
def pRef : Fin 12 → Fin 256 → Fin 8 → EReal := fun m c s => cb (ix3 m c s)

/-- The reference's values one after the other: the differences, the tables of distances, the least, the distances above it,
    the greatest, the scales, the codes. -/
def diffs : FVec Ideal S2x12x256x8 .f32 :=
  subf (broadcastInDim S2x12x256x8 ![0, 1, 2, 3] bcast_S2x12x1x8_S2x12x256x8_0_1_2_3 (broadcastInDim S2x12x1x8 ![0, 1, 3] bcast_S2x12x8_S2x12x1x8_0_1_3 (shapeCast S2x12x8 (extf .f32 x bitsLt_bf16_f32) shapeCasts_S2x96_S2x12x8)))
    (broadcastInDim S2x12x256x8 ![0, 1, 2, 3] bcast_S1x12x256x8_S2x12x256x8_0_1_2_3 (broadcastInDim S1x12x256x8 ![1, 2, 3] bcast_S12x256x8_S1x12x256x8_1_2_3 cb))
def luts : FVec Ideal S2x12x256 .f32 :=
  Host.reduceAdd (mulf (diffs x cb) (diffs x cb)) (constant S_ .f32 0x00000000#32) reducesTo_S2x12x256x8_S2x12x256_d3 h_S_
def mins : FVec Ideal S2x12 .f32 :=
  Host.reduce FloatOps.minimumf (luts x cb) (constant S_ .f32 0x7F800000#32) reducesTo_S2x12x256_S2x12_d2 h_S_
def rels : FVec Ideal S2x12x256 .f32 :=
  subf (luts x cb) (broadcastInDim S2x12x256 ![0, 1, 2] bcast_S2x12x1_S2x12x256_0_1_2 (broadcastInDim S2x12x1 ![0, 1] bcast_S2x12_S2x12x1_0_1 (mins x cb)))
def maxs : FVec Ideal S2 .f32 :=
  Host.reduce FloatOps.maximumf (rels x cb) (constant S_ .f32 0xFF800000#32) reducesTo_S2x12x256_S2_d1_2 h_S_
def scales : FVec Ideal S2 .f32 :=
  select (cmpf .ogt (maxs x cb) (broadcastInDim S2 ![] bcast_S_S2 (constant S_ .f32 0x00000000#32)))
    (Host.divf (maxs x cb) (broadcastInDim S2 ![] bcast_S_S2 (constant S_ .f32 0x437F0000#32)))
    (broadcastInDim S2 ![] bcast_S_S2 (id (constant S_ .f32 0x3F800000#32)))
def codes : IVec S2x12x256 8 :=
  trunci 8 (fptosi 32 (minimumf (broadcastInDim S2x12x256 ![] bcast_S_S2x12x256 (sitofp .f32 (constantI S_ 32 255#32)))
    (maximumf (broadcastInDim S2x12x256 ![] bcast_S_S2x12x256 (sitofp .f32 (constantI S_ 32 0#32)))
      (Host.roundeven (Host.divf (rels x cb) (broadcastInDim S2x12x256 ![0, 1, 2] bcast_S2x1x1_S2x12x256_0_1_2 (broadcastInDim S2x1x1 ![0] bcast_S2_S2x1x1_0 (scales x cb)))))))) natLt_8_32

/-- The subspace and the centroid of each code, as the indices looked up. -/
def subIdx : IVec S4194304x12x1 32 :=
  broadcastInDim S4194304x12x1 ![0, 1] bcast_S4194304x12_S4194304x12x1_0_1 (broadcastInDim S4194304x12 ![0, 1] bcast_S1x12_S4194304x12_0_1 (select (cmpi .slt (broadcastInDim S1x12 ![1] bcast_S12_S1x12_1 (iotaInDim S12 32 0)) (broadcastInDim S1x12 ![] bcast_S_S1x12 (constantI S_ 32 0#32))) (addi (broadcastInDim S1x12 ![1] bcast_S12_S1x12_1 (iotaInDim S12 32 0)) (broadcastInDim S1x12 ![] bcast_S_S1x12 (constantI S_ 32 12#32))) (broadcastInDim S1x12 ![1] bcast_S12_S1x12_1 (iotaInDim S12 32 0))))
def cenIdx : IVec S4194304x12x1 32 :=
  broadcastInDim S4194304x12x1 ![0, 1] bcast_S4194304x12_S4194304x12x1_0_1 (select (cmpi .slt (extui 32 k natLt_8_32) (broadcastInDim S4194304x12 ![] bcast_S_S4194304x12 (constantI S_ 32 0#32))) (addi (extui 32 k natLt_8_32) (broadcastInDim S4194304x12 ![] bcast_S_S4194304x12 (constantI S_ 32 256#32))) (extui 32 k natLt_8_32))
def idxs : IVec S4194304x12x2 32 :=
  concatenate S4194304x12x2 2 [⟨S4194304x12x1, subIdx⟩, ⟨S4194304x12x1, cenIdx k⟩] concatenates_S4194304x12x1_S4194304x12x1_S4194304x12x2_d2

/-- The integer distances and the distances. -/
def ints : IVec S2x4194304 32 :=
  Host.reduce IntOp.addi (extui 32 (Host.gather gather_S2x12x256_S4194304x12x2_S2x4194304x12_0_12_n_n_12_2_211 (codes x cb) (idxs k)) natLt_8_32)
    (constantI S_ 32 0#32) reducesTo_S2x4194304x12_S2x4194304_d2 h_S_
def dists : FVec Ideal S2x4194304 .bf16 :=
  truncf .bf16 (addf (mulf (broadcastInDim S2x4194304 ![0, 1] bcast_S2x1_S2x4194304_0_1 (broadcastInDim S2x1 ![0] bcast_S2_S2x1_0 (scales x cb))) (sitofp .f32 (ints x cb k)))
    (broadcastInDim S2x4194304 ![0, 1] bcast_S2x1_S2x4194304_0_1 (broadcastInDim S2x1 ![0] bcast_S2_S2x1_0 (Host.reduceAdd (mins x cb) (constant S_ .f32 0x00000000#32) reducesTo_S2x12_S2_d1 h_S_)))) bitsLt_bf16_f32

section Values
variable (b : Fin 2) (m : Fin 12)

/-- A difference of coordinates. -/
theorem diffs_apply (c : Fin 256) (s : Fin 8) : diffs x cb (ix4 b m c s) = qRef x b m s - pRef cb m c s := by
  have e1 : broadcastInDim S2x12x256x8 ![0, 1, 2, 3] bcast_S2x12x1x8_S2x12x256x8_0_1_2_3 (broadcastInDim S2x12x1x8 ![0, 1, 3] bcast_S2x12x8_S2x12x1x8_0_1_3
      (shapeCast S2x12x8 (extf .f32 x bitsLt_bf16_f32 : FVec Ideal S2x96 .f32) shapeCasts_S2x96_S2x12x8)) (ix4 b m c s) = qRef x b m s := by
    rw [broadcastInDim_apply _ _ _ _ (ix4 b m (0 : Fin 1) s) (by intro a; fin_cases a <;> rfl),
      broadcastInDim_apply _ _ _ _ (ix3 b m s) (by intro a; fin_cases a <;> rfl)]
    rw [shapeCast_apply _ _ _ (ix2 b (⟨8 * m.val + s.val, by omega⟩ : Fin 96)) (by
      rw [Shape.rowMajor_val_two, Shape.rowMajor_val_three]
      show b.val * 96 + (8 * m.val + s.val) = (b.val * 12 + m.val) * 8 + s.val
      omega)]
    rfl
  have e2 : broadcastInDim S2x12x256x8 ![0, 1, 2, 3] bcast_S1x12x256x8_S2x12x256x8_0_1_2_3 (broadcastInDim S1x12x256x8 ![1, 2, 3] bcast_S12x256x8_S1x12x256x8_1_2_3 cb) (ix4 b m c s)
      = pRef cb m c s := by
    rw [broadcastInDim_apply _ _ _ _ (ix4 (0 : Fin 1) m c s) (by intro a; fin_cases a <;> rfl),
      broadcastInDim_apply _ _ _ _ (ix3 m c s) (by intro a; fin_cases a <;> rfl)]
    rfl
  exact congrArg₂ (fun u v : EReal => u - v) e1 e2

/-- An entry of the tables of distances. -/
theorem luts_apply (c : Fin 256) : luts x cb (ix3 b m c) = lut (qRef x) (pRef cb) b m c := by
  unfold luts
  rw [Host.reduceAdd_apply]
  refine (Ideal.hostReduceAdd_single _ (by decide : S2x12x256x8.Reduces [3] S2x12x256) _ _ _).trans ?_
  have hz : (constant S_ .f32 0x00000000#32 : FVec Ideal S_ .f32) (Shape.Idx.first h_S_) = (0 : EReal) := Ideal.ofBits_zero_f32
  rw [hz, zero_add]
  refine Finset.sum_congr rfl fun s _ => ?_
  have hl : (by decide : S2x12x256x8.Reduces [3] S2x12x256).lift (ix3 b m c) s = ix4 b m c s := by
    funext a; refine Fin.ext ?_
    match a with
    | ⟨0, _⟩ => rfl
    | ⟨1, _⟩ => rfl
    | ⟨2, _⟩ => rfl
    | ⟨3, _⟩ => rfl
  rw [hl]
  exact congrArg₂ (fun u v : EReal => u * v) (diffs_apply x cb b m c s) (diffs_apply x cb b m c s)

/-- The least distance in a subspace. -/
theorem mins_apply : mins x cb (ix2 b m) = bias (qRef x) (pRef cb) b m := by
  unfold mins
  refine (Host.reduce_eq_fold_single (α := EReal) min _ _ _ (by decide : S2x12x256.Reduces [2] S2x12) _ _).trans ?_
  have hf : luts x cb ∘ (by decide : S2x12x256.Reduces [2] S2x12).lift (ix2 b m) = fun c : Fin 256 => lut (qRef x) (pRef cb) b m c :=
    funext fun c => by
      have hl : (by decide : S2x12x256.Reduces [2] S2x12).lift (ix2 b m) c = ix3 b m c := by
        funext a; refine Fin.ext ?_
        match a with
        | ⟨0, _⟩ => rfl
        | ⟨1, _⟩ => rfl
        | ⟨2, _⟩ => rfl
      exact (congrArg _ hl).trans (luts_apply x cb b m c)
  have hT : (constant S_ .f32 0x7F800000#32 : FVec Ideal S_ .f32) (Shape.Idx.first h_S_) = (⊤ : EReal) := ofBits_top
  rw [hf, hT]
  rfl

/-- A distance above the least. -/
theorem rels_apply (c : Fin 256) : rels x cb (ix3 b m c) = rel (qRef x) (pRef cb) b m c := by
  have e : broadcastInDim S2x12x256 ![0, 1, 2] bcast_S2x12x1_S2x12x256_0_1_2 (broadcastInDim S2x12x1 ![0, 1] bcast_S2x12_S2x12x1_0_1 (mins x cb)) (ix3 b m c)
      = bias (qRef x) (pRef cb) b m := by
    rw [broadcastInDim_apply _ _ _ _ (ix3 b m (0 : Fin 1)) (by intro a; fin_cases a <;> rfl),
      broadcastInDim_apply _ _ _ _ (ix2 b m) (by intro a; fin_cases a <;> rfl)]
    exact mins_apply x cb b m
  exact congrArg₂ (fun u v : EReal => u - v) (luts_apply x cb b m c) e

/-- The greatest distance above the least. -/
theorem maxs_apply : maxs x cb (ix1 b) = amax (qRef x) (pRef cb) b := by
  unfold maxs
  refine (Host.reduce_eq_fold (α := EReal) max _ _ _ _ _).trans ?_
  rw [Shape.ReducesTo.fold_fiber_r3_a12]
  have hT : (constant S_ .f32 0xFF800000#32 : FVec Ideal S_ .f32) (Shape.Idx.first h_S_) = (⊥ : EReal) := ofBits_bot
  rw [hT]
  have hf : ∀ z : Fin 12 × Fin 256, rels x cb (Idealize.ShloMosaic.ix3 b z.1 z.2) = rel (qRef x) (pRef cb) b z.1 z.2 := fun z =>
    (congrArg _ (by funext a; match a with | ⟨0, _⟩ => rfl | ⟨1, _⟩ => rfl | ⟨2, _⟩ => rfl)).trans (rels_apply x cb b z.1 z.2)
  have h2 : amax (qRef x) (pRef cb) b = (Finset.univ : Finset (Fin 12 × Fin 256)).sup fun z => rel (qRef x) (pRef cb) b z.1 z.2 := by
    rw [amax, ← Finset.univ_product_univ, Finset.sup_product_left]
  rw [h2, ← funext hf]
  rfl

/-- The scale of a query. -/
theorem scales_apply : scales x cb (ix1 b) = scale (qRef x) (pRef cb) b := by
  show Scalar.select (Ideal.cmp .ogt (maxs x cb (ix1 b)) (Ideal.ofBits .f32 0x00000000#32))
    (Ideal.div (maxs x cb (ix1 b)) (Ideal.ofBits .f32 0x437F0000#32)) (Ideal.ofBits .f32 0x3F800000#32) = _
  rw [maxs_apply, Ideal.ofBits_zero_f32, ofBits_255, ofBits_one]; rfl

/-- The code of a distance. -/
theorem codes_apply (c : Fin 256) : codes x cb (ix3 b m c) = (code (qRef x) (pRef cb) b m c).setWidth 8 := by
  have e : broadcastInDim S2x12x256 ![0, 1, 2] bcast_S2x1x1_S2x12x256_0_1_2 (broadcastInDim S2x1x1 ![0] bcast_S2_S2x1x1_0 (scales x cb)) (ix3 b m c)
      = scale (qRef x) (pRef cb) b := by
    rw [broadcastInDim_apply _ _ _ _ (ix3 b (0 : Fin 1) (0 : Fin 1)) (by intro a; fin_cases a <;> rfl),
      broadcastInDim_apply _ _ _ _ (ix1 b) (by intro a; fin_cases a; rfl)]
    exact scales_apply x cb b
  have h255 : (((255#32 : BitVec 32).toInt : ℝ) : EReal) = ((255 : ℝ) : EReal) := by
    rw [show (255#32 : BitVec 32).toInt = 255 from rfl]; norm_num
  have h0 : (((0#32 : BitVec 32).toInt : ℝ) : EReal) = 0 := by
    rw [show (0#32 : BitVec 32).toInt = 0 from rfl]; norm_num
  show (Ideal.fptosi 32 (min (((255#32 : BitVec 32).toInt : ℝ) : EReal) (max (((0#32 : BitVec 32).toInt : ℝ) : EReal)
    (Ideal.liftRound Ideal.roundHalfEven (Ideal.div (rels x cb (ix3 b m c)) (broadcastInDim S2x12x256 ![0, 1, 2] bcast_S2x1x1_S2x12x256_0_1_2 (broadcastInDim S2x1x1 ![0] bcast_S2_S2x1x1_0 (scales x cb)) (ix3 b m c))))))).setWidth 8 = _
  rw [e, rels_apply, h255, h0]; rfl

end Values

/-! The looked-up codes and the distances. -/

/-- A word below half the range is not negative. -/
theorem slt_zero {w : ℕ} (v : BitVec 32) (h : v.toNat < 2 ^ 31) : IntOp.cmpi .slt v 0#32 = 0#1 := by
  have h0 : v.slt 0#32 = false := by
    rw [BitVec.slt_eq_decide, decide_eq_false_iff_not, BitVec.toInt_eq_toNat_of_lt (by omega)]
    simp
  show BitVec.ofBool (v.slt 0#32) = 0#1
  rw [h0]; rfl

/-- The first index looked up is the subspace. -/
theorem idxs_sub (n : Fin 4194304) (m : Fin 12) : idxs k (ix3 n m (0 : Fin 2)) = BitVec.ofNat 32 m.val := by
  refine (concatenate_pair_apply_left (t := S4194304x12x2) (s₁ := S4194304x12x1) (s₂ := S4194304x12x1) (2 : Fin 3) subIdx (cenIdx k)
    concatenates_S4194304x12x1_S4194304x12x1_S4194304x12x2_d2 (ix3 n m (0 : Fin 2)) rfl (ix3 n m (0 : Fin 1)) (fun a => by
    match a with
    | ⟨0, _⟩ => rfl
    | ⟨1, _⟩ => rfl
    | ⟨2, _⟩ => rfl)).trans ?_
  unfold subIdx
  rw [broadcastInDim_apply _ _ _ _ (ix2 n m) (by intro a; fin_cases a <;> rfl),
    broadcastInDim_apply _ _ _ _ (ix2 (0 : Fin 1) m) (by intro a; fin_cases a <;> rfl)]
  have e : broadcastInDim S1x12 ![1] bcast_S12_S1x12_1 (iotaInDim S12 32 0) (ix2 (0 : Fin 1) m) = BitVec.ofNat 32 m.val := by
    rw [broadcastInDim_apply _ _ _ _ (ix1 m) (by intro a; fin_cases a; rfl)]; rfl
  show Scalar.select (IntOp.cmpi .slt (broadcastInDim S1x12 ![1] bcast_S12_S1x12_1 (iotaInDim S12 32 0) (ix2 (0 : Fin 1) m)) 0#32) _
    (broadcastInDim S1x12 ![1] bcast_S12_S1x12_1 (iotaInDim S12 32 0) (ix2 (0 : Fin 1) m)) = _
  rw [e, slt_zero (w := 0) _ (by rw [BitVec.toNat_ofNat]; have := m.isLt; omega)]
  rfl

/-- The second index looked up is the centroid code. -/
theorem idxs_cen (n : Fin 4194304) (m : Fin 12) : idxs k (ix3 n m (1 : Fin 2)) = (k (ix2 n m)).setWidth 32 := by
  refine (concatenate_pair_apply_right (t := S4194304x12x2) (s₁ := S4194304x12x1) (s₂ := S4194304x12x1) (2 : Fin 3) subIdx (cenIdx k)
    concatenates_S4194304x12x1_S4194304x12x1_S4194304x12x2_d2 (ix3 n m (1 : Fin 2)) rfl rfl (ix3 n m (0 : Fin 1)) (fun a ha => by
    match a with
    | ⟨0, _⟩ => rfl
    | ⟨1, _⟩ => rfl
    | ⟨2, _⟩ => exact absurd rfl ha) rfl).trans ?_
  unfold cenIdx
  rw [broadcastInDim_apply _ _ _ _ (ix2 n m) (by intro a; fin_cases a <;> rfl)]
  show Scalar.select (IntOp.cmpi .slt ((k (ix2 n m)).setWidth 32) 0#32) _ ((k (ix2 n m)).setWidth 32) = _
  rw [slt_zero (w := 0) _ (by rw [BitVec.toNat_setWidth]; have := (k (ix2 n m)).isLt; omega)]
  rfl

/-- The code byte of point `n` in subspace `m`, as a number. -/
def cenOf (n : Fin 4194304) (m : Fin 12) : Fin 256 := ⟨(k (ix2 n m)).toNat, (k (ix2 n m)).isLt⟩

/-- The lookup reads the code of the point's centroid. -/
theorem gather_apply (v : IVec S2x12x256 8) (b : Fin 2) (n : Fin 4194304) (m : Fin 12) :
    Host.gather gather_S2x12x256_S4194304x12x2_S2x4194304x12_0_12_n_n_12_2_211 v (idxs k) (ix3 b n m) = v (ix3 b m (cenOf k n m)) := by
  unfold Host.gather
  refine congrArg v (funext fun a => Fin.ext ?_)
  have s0 : gather_S2x12x256_S4194304x12x2_S2x4194304x12_0_12_n_n_12_2_211.siIdx (ix3 b n m) ⟨0, by decide⟩ = ix3 n m (0 : Fin 2) := by
    funext a; refine Fin.ext ?_
    match a with
    | ⟨0, _⟩ => rfl
    | ⟨1, _⟩ => rfl
    | ⟨2, _⟩ => rfl
  have s1 : gather_S2x12x256_S4194304x12x2_S2x4194304x12_0_12_n_n_12_2_211.siIdx (ix3 b n m) ⟨1, by decide⟩ = ix3 n m (1 : Fin 2) := by
    funext a; refine Fin.ext ?_
    match a with
    | ⟨0, _⟩ => rfl
    | ⟨1, _⟩ => rfl
    | ⟨2, _⟩ => rfl
  match a with
  | ⟨0, _⟩ => show 0 + 0 + b.val = b.val; omega
  | ⟨1, _⟩ =>
    show min (idxs k (gather_S2x12x256_S4194304x12x2_S2x4194304x12_0_12_n_n_12_2_211.siIdx (ix3 b n m) ⟨0, by decide⟩)).toInt.toNat (12 - 1) + 0 + 0 = m.val
    rw [s0, idxs_sub, BitVec.toInt_eq_toNat_of_lt (by rw [BitVec.toNat_ofNat]; have := m.isLt; omega), BitVec.toNat_ofNat]
    have := m.isLt; omega
  | ⟨2, _⟩ =>
    show min (idxs k (gather_S2x12x256_S4194304x12x2_S2x4194304x12_0_12_n_n_12_2_211.siIdx (ix3 b n m) ⟨1, by decide⟩)).toInt.toNat (256 - 1) + 0 + 0 = (k (ix2 n m)).toNat
    have := (k (ix2 n m)).isLt
    rw [s1, idxs_cen, BitVec.toInt_eq_toNat_of_lt (by rw [BitVec.toNat_setWidth]; omega), BitVec.toNat_setWidth]
    omega

/-- A fold of sums of words is the word of the sum. -/
theorem fold_addi {ι : Type} [DecidableEq ι] (s : Finset ι) (f : ι → BitVec 32) :
    s.fold IntOp.addi 0#32 f = BitVec.ofNat 32 (∑ i ∈ s, (f i).toNat) := by
  induction s using Finset.induction_on with
  | empty => rfl
  | insert a s ha ih =>
    rw [Finset.fold_insert ha, ih, Finset.sum_insert ha, BitVec.ofNat_add, BitVec.ofNat_toNat, BitVec.setWidth_eq]; rfl

/-- The integer distance of a point. -/
theorem ints_apply (b : Fin 2) (n : Fin 4194304) : ints x cb k (ix2 b n) = dint (qRef x) (pRef cb) b (cenOf k n) := by
  unfold ints
  refine (Host.reduce_eq_fold_single IntOp.addi _ _ _ (by decide : S2x4194304x12.Reduces [2] S2x4194304) _ _).trans ?_
  have hf : ∀ m : Fin 12, (extui 32 (Host.gather gather_S2x12x256_S4194304x12x2_S2x4194304x12_0_12_n_n_12_2_211 (codes x cb) (idxs k)) natLt_8_32 (ix3 b n m)).toNat
      = (code (qRef x) (pRef cb) b m (cenOf k n m)).toNat := fun m => by
    show ((Host.gather gather_S2x12x256_S4194304x12x2_S2x4194304x12_0_12_n_n_12_2_211 (codes x cb) (idxs k) (ix3 b n m)).setWidth 32).toNat = _
    rw [gather_apply, codes_apply]
    have h := code_lt (qRef x) (pRef cb) b m (cenOf k n m)
    simp only [BitVec.toNat_setWidth]
    omega
  refine (fold_addi _ _).trans (congrArg (BitVec.ofNat 32) (Finset.sum_congr rfl fun m _ => ?_))
  have hl : (by decide : S2x4194304x12.Reduces [2] S2x4194304).lift (ix2 b n) m = ix3 b n m := by
    funext a; refine Fin.ext ?_
    match a with
    | ⟨0, _⟩ => rfl
    | ⟨1, _⟩ => rfl
    | ⟨2, _⟩ => rfl
  exact (congrArg (fun i => BitVec.toNat (extui 32 (Host.gather gather_S2x12x256_S4194304x12x2_S2x4194304x12_0_12_n_n_12_2_211 (codes x cb) (idxs k)) natLt_8_32 i)) hl).trans (hf m)

/-- The distance of a point. -/
theorem dists_apply (b : Fin 2) (n : Fin 4194304) : dists x cb k (ix2 b n) = dist (qRef x) (pRef cb) b (cenOf k n) := by
  have e1 : broadcastInDim S2x4194304 ![0, 1] bcast_S2x1_S2x4194304_0_1 (broadcastInDim S2x1 ![0] bcast_S2_S2x1_0 (scales x cb)) (ix2 b n) = scale (qRef x) (pRef cb) b := by
    rw [broadcastInDim_apply _ _ _ _ (ix2 b (0 : Fin 1)) (by intro a; fin_cases a <;> rfl),
      broadcastInDim_apply _ _ _ _ (ix1 b) (by intro a; fin_cases a; rfl)]
    exact scales_apply x cb b
  have e2 : broadcastInDim S2x4194304 ![0, 1] bcast_S2x1_S2x4194304_0_1 (broadcastInDim S2x1 ![0] bcast_S2_S2x1_0
      (Host.reduceAdd (mins x cb) (constant S_ .f32 0x00000000#32) reducesTo_S2x12_S2_d1 h_S_)) (ix2 b n) = ∑ m : Fin 12, bias (qRef x) (pRef cb) b m := by
    rw [broadcastInDim_apply _ _ _ _ (ix2 b (0 : Fin 1)) (by intro a; fin_cases a <;> rfl),
      broadcastInDim_apply _ _ _ _ (ix1 b) (by intro a; fin_cases a; rfl), Host.reduceAdd_apply]
    refine (Ideal.hostReduceAdd_single _ (by decide : S2x12.Reduces [1] S2) _ _ _).trans ?_
    have hz : (constant S_ .f32 0x00000000#32 : FVec Ideal S_ .f32) (Shape.Idx.first h_S_) = (0 : EReal) := Ideal.ofBits_zero_f32
    rw [hz, zero_add]
    refine Finset.sum_congr rfl fun m _ => ?_
    have hl : (by decide : S2x12.Reduces [1] S2).lift (ix1 b) m = ix2 b m := by
      funext a; refine Fin.ext ?_
      match a with
      | ⟨0, _⟩ => rfl
      | ⟨1, _⟩ => rfl
    exact (congrArg _ hl).trans (mins_apply x cb b m)
  have e3 : (((ints x cb k (ix2 b n)).toInt : ℝ) : EReal) = (((dint (qRef x) (pRef cb) b (cenOf k n)).toInt : ℝ) : EReal) := by rw [ints_apply]
  exact congrArg₂ (fun u v : EReal => u + v) (congrArg₂ (fun u v : EReal => u * v) e1 e3) e2

end Cert.ReferenceIdeal.Adc

end
-- ==== Proof.RefArray.lean ====
module

public import proofs.«01_k».proof.Proof.RefValue
public import Idealize.ShloMosaic.Lib.Pointwise

@[expose] public section

set_option maxRecDepth 16384

noncomputable section

namespace Cert.ReferenceIdeal.Adc

open Idealize.ShloMosaic hiding ix0 ix1 ix2 ix3 ix4
open Idealize.ShloMosaic.ValueIdx
open Idealize.SL Idealize.SL.Sem
open Cert.ReferenceIdeal Cert.ReferenceIdeal.Gen Cert.Adc

variable (m : (ℓ : Loc nD τ sig) → Buf (Elt Ideal) ℓ) (ρ : Dev nD → PrngReg) (c : Dev nD)

/-- The arguments. -/
def B0 : FVec Ideal S2x96 .bf16 := m ((c.tc : Thread nD τ).loc main_arg0)
def B1 : FVec Ideal S12x256x8 .f32 := m ((c.tc : Thread nD τ).loc main_arg1)
def B2 : IVec S4194304x12 8 := m ((c.tc : Thread nD τ).loc main_arg2)

/-- The distances, by name. -/
theorem res57 : Value.res_main_v57 m c = dists (B0 m c) (B1 m c) (B2 m c) := by unfold Value.res_main_v57; rfl
/-- The integer distances, by name. -/
theorem res48 : Value.res_main_v48 m c = ints (B0 m c) (B1 m c) (B2 m c) := by unfold Value.res_main_v48; rfl
/-- The codes of the table, by name. -/
theorem res28 : Value.res_main_v28 m c = codes (B0 m c) (B1 m c) := by unfold Value.res_main_v28; rfl
/-- The scales, by name. -/
theorem res58 : Value.res_main_v58 m c = shapeCast S1x2 (scales (B0 m c) (B1 m c)) shapeCasts_S2_S1x2 := by unfold Value.res_main_v58; rfl

/-- The results entry by entry. -/
theorem dists_fun (x : FVec Ideal S2x96 .bf16) (cb : FVec Ideal S12x256x8 .f32) (k : IVec S4194304x12 8) :
    dists x cb k = fun i => dist (qRef x) (pRef cb) (i 0) (cenOf k (i 1)) := by
  funext i
  have hi : i = (ix2 (i 0) (i 1) : S2x4194304.Idx) := funext fun a => match a with | ⟨0, _⟩ => rfl | ⟨1, _⟩ => rfl
  exact (congrArg (dists x cb k) hi).trans (dists_apply x cb k _ _)
/-- The integer distances, entry by entry. -/
theorem ints_fun (x : FVec Ideal S2x96 .bf16) (cb : FVec Ideal S12x256x8 .f32) (k : IVec S4194304x12 8) :
    ints x cb k = fun i => dint (qRef x) (pRef cb) (i 0) (cenOf k (i 1)) := by
  funext i
  have hi : i = (ix2 (i 0) (i 1) : S2x4194304.Idx) := funext fun a => match a with | ⟨0, _⟩ => rfl | ⟨1, _⟩ => rfl
  exact (congrArg (ints x cb k) hi).trans (ints_apply x cb k _ _)
/-- The codes of the table, entry by entry. -/
theorem codes_fun (x : FVec Ideal S2x96 .bf16) (cb : FVec Ideal S12x256x8 .f32) :
    codes x cb = fun i => (code (qRef x) (pRef cb) (i 0) (i 1) (i 2)).setWidth 8 := by
  funext i
  have hi : i = (ix3 (i 0) (i 1) (i 2) : S2x12x256.Idx) := funext fun a => match a with | ⟨0, _⟩ => rfl | ⟨1, _⟩ => rfl | ⟨2, _⟩ => rfl
  exact (congrArg (codes x cb) hi).trans (codes_apply x cb _ _ _)
/-- The least distances, entry by entry. -/
theorem mins_fun (x : FVec Ideal S2x96 .bf16) (cb : FVec Ideal S12x256x8 .f32) :
    mins x cb = fun i => bias (qRef x) (pRef cb) (i 0) (i 1) := by
  funext i
  have hi : i = (ix2 (i 0) (i 1) : S2x12.Idx) := funext fun a => match a with | ⟨0, _⟩ => rfl | ⟨1, _⟩ => rfl
  exact (congrArg (mins x cb) hi).trans (mins_apply x cb _ _)
/-- The scales, entry by entry. -/
theorem scales_fun (x : FVec Ideal S2x96 .bf16) (cb : FVec Ideal S12x256x8 .f32) :
    shapeCast S1x2 (scales x cb) shapeCasts_S2_S1x2 = fun i => scale (qRef x) (pRef cb) (i 1) := by
  funext i
  have hi : i = (ix2 (0 : Fin 1) (i 1) : S1x2.Idx) := funext fun a => match a with
    | ⟨0, _⟩ => Fin.ext (by have : (i 0).val < 1 := (i 0).isLt; show (i 0).val = 0; omega)
    | ⟨1, _⟩ => rfl
  refine (congrArg (shapeCast S1x2 (scales x cb) shapeCasts_S2_S1x2) hi).trans ?_
  exact (shapeCast_a_1a_apply _ _ _ _).trans (scales_apply x cb _)

/-- Every execution of the reference ends with the five results at the stated functions of the arguments. -/
theorem run : θ_run defs (onTc (τ := τ) (main (F := Ideal))) ⟨m, fun _ => 0, ρ⟩ (fun r => ∀ c : Dev nD,
      r.2.mem ((c.tc : Thread nD τ).loc main_v57) = (fun i : S2x4194304.Idx => dist (qRef (B0 m c)) (pRef (B1 m c)) (i 0) (cenOf (B2 m c) (i 1)))
      ∧ r.2.mem ((c.tc : Thread nD τ).loc main_v48) = (fun i : S2x4194304.Idx => dint (qRef (B0 m c)) (pRef (B1 m c)) (i 0) (cenOf (B2 m c) (i 1)))
      ∧ r.2.mem ((c.tc : Thread nD τ).loc main_v28) = (fun i : S2x12x256.Idx => (code (qRef (B0 m c)) (pRef (B1 m c)) (i 0) (i 1) (i 2)).setWidth 8)
      ∧ r.2.mem ((c.tc : Thread nD τ).loc main_v58) = (fun i : S1x2.Idx => scale (qRef (B0 m c)) (pRef (B1 m c)) (i 1))
      ∧ r.2.mem ((c.tc : Thread nD τ).loc main_v9) = (fun i : S2x12.Idx => bias (qRef (B0 m c)) (pRef (B1 m c)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans ((res57 m c).trans (dists_fun _ _ _)),
      (h c).2.1.trans ((res48 m c).trans (ints_fun _ _ _)),
      (h c).2.2.1.trans ((res28 m c).trans (codes_fun _ _)),
      (h c).2.2.2.1.trans ((res58 m c).trans (scales_fun _ _)),
      (h c).2.2.2.2.1.trans (mins_fun (B0 m c) (B1 m c)), (h c).2.2.2.2.2⟩)
    (Value.run (F := Ideal) m ρ)

end Cert.ReferenceIdeal.Adc

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SafeFrame
public import proofs.«01_k».proof.Proof.ArrayValue
public import proofs.«01_k».proof.Proof.RefArray
public import Idealize.ShloMosaic.Lib.Bf16Pair
public import Idealize.ShloMosaic.Adequacy
public import Idealize.ShloMosaic.Init

@[expose] public section

noncomputable section

namespace Cert.Proof

open Idealize.ShloMosaic Idealize.SL.Sem

/-- The kernel runs, leaves its arguments unchanged and every counter at zero. -/
theorem frame_k : Cert.quiescent_Kernel (hKernel := Cert.Kernel.Gen.facts) :=
  fun m ρ _ => Cert.Kernel.Safe.frame m ρ

/-- So does the kernel over the extended reals. -/
theorem frame_ki : Cert.quiescent_KernelIdeal (hKernelIdeal := Cert.KernelIdeal.Gen.facts) :=
  fun m ρ _ => Cert.KernelIdeal.Adc.frame m ρ

/-- So does the reference over the extended reals. -/
theorem frame_ri : Cert.quiescent_ReferenceIdeal (hReferenceIdeal := Cert.ReferenceIdeal.Gen.facts) := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

/-- Each rewrite from the kernel to the kernel over the extended reals is its rule's. -/
theorem preserves : Cert.preserves_Kernel_KernelIdeal :=
  ⟨IdealRules.bf16_pair.packStatement _, IdealRules.bf16_pair.statement _ _⟩

/-- Over the extended reals the kernel and the reference, from the same arguments, end with the same five results. -/
theorem algebraic : Cert.algebraic_KernelIdeal_ReferenceIdeal (hKernelIdeal := Cert.KernelIdeal.Gen.facts)
    (hReferenceIdeal := Cert.ReferenceIdeal.Gen.facts) := by
  intro m g m' g' _ hargs
  have h0 : ∀ c, Cert.ReferenceIdeal.Adc.B0 m' c = Cert.KernelIdeal.Adc.A0 m c := fun c => (hargs c).1
  have h1 : ∀ c, Cert.ReferenceIdeal.Adc.B1 m' c = Cert.KernelIdeal.Adc.A1 m c := fun c => (hargs c).2.1
  have h2 : ∀ c, Cert.ReferenceIdeal.Adc.B2 m' c = Cert.KernelIdeal.Adc.A2 m c := fun c => (hargs c).2.2
  refine ⟨_, _, _, _, _, Cert.KernelIdeal.Adc.run m g, ?_⟩
  refine (θ_run Cert.ReferenceIdeal.defs _ _).mono (fun r h c => ?_) (Cert.ReferenceIdeal.Adc.run m' g')
  have hc := h c
  rw [h0 c, h1 c, h2 c] at hc
  exact hc

/-- The five claims. -/
theorem claim : Cert.Claim := ⟨Cert.Kernel.Gen.facts, Cert.KernelIdeal.Gen.facts, Cert.ReferenceIdeal.Gen.facts,
  frame_k, frame_ki, frame_ri, preserves, algebraic⟩

end Cert.Proof

end
